-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)) (v4 : (c : Dev Cert.Kernel3Ideal.nD) → Buf (Elt Ideal) ((c.tc : Thread Cert.Kernel3Ideal.nD Cert.Kernel3Ideal.τ).loc Cert.Kernel3Ideal.main_v19_4)) (v5 : (c : Dev Cert.Kernel3Ideal.nD) → Buf (Elt Ideal) ((c.tc : Thread Cert.Kernel3Ideal.nD Cert.Kernel3Ideal.τ).loc Cert.Kernel3Ideal.main_v19_5)) (v6 : (c : Dev Cert.Kernel3Ideal.nD) → Buf (Elt Ideal) ((c.tc : Thread Cert.Kernel3Ideal.nD Cert.Kernel3Ideal.τ).loc Cert.Kernel3Ideal.main_v19_6)) (v7 : (c : Dev Cert.Kernel3Ideal.nD) → Buf (Elt Ideal) ((c.tc : Thread Cert.Kernel3Ideal.nD Cert.Kernel3Ideal.τ).loc Cert.Kernel3Ideal.main_v19_7)) (v8 : (c : Dev Cert.Kernel3Ideal.nD) → Buf (Elt Ideal) ((c.tc : Thread Cert.Kernel3Ideal.nD Cert.Kernel3Ideal.τ).loc Cert.Kernel3Ideal.main_v19_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_v19_4) = v4 c
          ∧ r.2.mem ((c.tc : Thread Cert.Kernel3Ideal.nD Cert.Kernel3Ideal.τ).loc Cert.Kernel3Ideal.main_v19_5) = v5 c
          ∧ r.2.mem ((c.tc : Thread Cert.Kernel3Ideal.nD Cert.Kernel3Ideal.τ).loc Cert.Kernel3Ideal.main_v19_6) = v6 c
          ∧ r.2.mem ((c.tc : Thread Cert.Kernel3Ideal.nD Cert.Kernel3Ideal.τ).loc Cert.Kernel3Ideal.main_v19_7) = v7 c
          ∧ r.2.mem ((c.tc : Thread Cert.Kernel3Ideal.nD Cert.Kernel3Ideal.τ).loc Cert.Kernel3Ideal.main_v19_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_v32) = v5 c
          ∧ r.2.mem ((c.tc : Thread Cert.Reference3Ideal.nD Cert.Reference3Ideal.τ).loc Cert.Reference3Ideal.main_v33) = v6 c
          ∧ r.2.mem ((c.tc : Thread Cert.Reference3Ideal.nD Cert.Reference3Ideal.τ).loc Cert.Reference3Ideal.main_v34) = v7 c
          ∧ r.2.mem ((c.tc : Thread Cert.Reference3Ideal.nD Cert.Reference3Ideal.τ).loc Cert.Reference3Ideal.main_v35) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v26_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x8192x512 : Shape := ⟨3, ![2, 8192, 512]⟩
abbrev S1x4x512 : Shape := ⟨3, ![1, 4, 512]⟩
abbrev S1x512 : Shape := ⟨2, ![1, 512]⟩
abbrev S1x8x64x64 : Shape := ⟨4, ![1, 8, 64, 64]⟩
abbrev S512 : Shape := ⟨1, ![512]⟩
abbrev S_ : Shape := ⟨0, ![]⟩
abbrev S4x512 : Shape := ⟨2, ![4, 512]⟩
abbrev S8x64x64 : Shape := ⟨3, ![8, 64, 64]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x512x512 : Shape := ⟨3, ![1, 512, 512]⟩
abbrev S8x512 : Shape := ⟨2, ![8, 512]⟩
abbrev S520x512 : Shape := ⟨2, ![520, 512]⟩

abbrev nBuf : Space → Nat
  | .hbm => 64
  | .vmem => 17
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S1x4x512, .f32⟩
  | .hbm, ⟨3, _⟩ => ⟨S1x512, .f32⟩
  | .hbm, ⟨4, _⟩ => ⟨S1x8x64x64, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .i1⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S4x512, .f32⟩
  | .hbm, ⟨26, _⟩ => ⟨S512, .f32⟩
  | .hbm, ⟨27, _⟩ => ⟨S1x512, .f32⟩
  | .hbm, ⟨28, _⟩ => ⟨S8x64x64, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S8x64x1x64, .f32⟩
  | .hbm, ⟨37, _⟩ => ⟨S8x1x8x1, .f32⟩
  | .hbm, ⟨38, _⟩ => ⟨S8x64x8x64, .f32⟩
  | .hbm, ⟨39, _⟩ => ⟨S8x64x8x64, .f32⟩
  | .hbm, ⟨40, _⟩ => ⟨S8x64x8x64, .f32⟩
  | .hbm, ⟨41, _⟩ => ⟨S512x512, .f32⟩
  | .hbm, ⟨42, _⟩ => ⟨S512x512, .bf16⟩
  | .hbm, ⟨43, _⟩ => ⟨S512, .f32⟩
  | .hbm, ⟨44, _⟩ => ⟨S1x512, .f32⟩
  | .hbm, ⟨45, _⟩ => ⟨S8x64x64, .f32⟩
  | .hbm, ⟨46, _⟩ => ⟨S8x8, .i32⟩
  | .hbm, ⟨47, _⟩ => ⟨S8x8, .i32⟩
  | .hbm, ⟨48, _⟩ => ⟨S_, .i32⟩
  | .hbm, ⟨49, _⟩ => ⟨S8x8, .i32⟩
  | .hbm, ⟨50, _⟩ => ⟨S8x8, .i32⟩
  | .hbm, ⟨51, _⟩ => ⟨S8x8, .i1⟩
  | .hbm, ⟨52, _⟩ => ⟨S8x8, .f32⟩
  | .hbm, ⟨53, _⟩ => ⟨S8x64x1x64, .f32⟩
  | .hbm, ⟨54, _⟩ => ⟨S8x1x8x1, .f32⟩
  | .hbm, ⟨55, _⟩ => ⟨S8x64x8x64, .f32⟩
  | .hbm, ⟨56, _⟩ => ⟨S8x64x8x64, .f32⟩
  | .hbm, ⟨57, _⟩ => ⟨S8x64x8x64, .f32⟩
  | .hbm, ⟨58, _⟩ => ⟨S512x512, .f32⟩
  | .hbm, ⟨59, _⟩ => ⟨S512x512, .bf16⟩
  | .hbm, ⟨60, _⟩ => ⟨S512, .f32⟩
  | .hbm, ⟨61, _⟩ => ⟨S1x512, .f32⟩
  | .hbm, ⟨62, _⟩ => ⟨S1x512, .f32⟩
  | .hbm, ⟨63, _⟩ => ⟨S2x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512x512, .f32⟩
  | .local _ .vmem, ⟨12, _⟩ => ⟨S1x512x512, .f32⟩
  | .local _ .vmem, ⟨13, _⟩ => ⟨S8x512, .f32⟩
  | .local _ .vmem, ⟨14, _⟩ => ⟨S8x512, .f32⟩
  | .local _ .vmem, ⟨15, _⟩ => ⟨S512x512, .f32⟩
  | .local _ .vmem, ⟨16, _⟩ => ⟨S512x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_45 : BitVec 32 := 0#32
  let c64_i32 : BitVec 32 := 64#32
  let v121 : BitVec 32 := Scalar.addi c0_i32_45 c64_i32
  let c1_i32_46 : BitVec 32 := 1#32
  ⟨c0_i32_45, v121, c1_i32_46⟩
def k0_mult1 (k0_t1 : Fin k0_t1_loop.trips) : BitVec 32 :=
  let c0_i32_45 : BitVec 32 := 0#32
  let c1_i32_46 : BitVec 32 := 1#32
  let arg16 : BitVec 32 := Scf.iv c0_i32_45 c1_i32_46 k0_t1
  let c8_i32_62 : BitVec 32 := 8#32
  let v146 : BitVec 32 := Scalar.muli arg16 c8_i32_62
  v146
def k0_off1 (k0_t1 : Fin k0_t1_loop.trips) : Fin 2 → Nat :=
  let c0_i32_45 : BitVec 32 := 0#32
  let c1_i32_46 : BitVec 32 := 1#32
  let arg16 : BitVec 32 := Scf.iv c0_i32_45 c1_i32_46 k0_t1
  let c8_i32_62 : BitVec 32 := 8#32
  let v146 : BitVec 32 := Scalar.muli arg16 c8_i32_62
  let v147 : BitVec 32 := v146
  let v148 : Index := Scalar.indexCast v147
  let c0_63 : Index := 0#32
  ![v148.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x8192x512 : Shape := ⟨3, ![2, 8192, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S_ : Shape := ⟨0, ![]⟩
abbrev S2x8195x512 : Shape := ⟨3, ![2, 8195, 512]⟩
abbrev S512 : Shape := ⟨1, ![512]⟩
abbrev S1x1x512 : Shape := ⟨3, ![1, 1, 512]⟩
abbrev S2x8192x8x64 : Shape := ⟨4, ![2, 8192, 8, 64]⟩
abbrev S8x64x64 : Shape := ⟨3, ![8, 64, 64]⟩
abbrev S8x64x2x8192 : Shape := ⟨4, ![8, 64, 2, 8192]⟩
abbrev S2x512 : Shape := ⟨2, ![2, 512]⟩
abbrev S8192x2x512 : Shape := ⟨3, ![8192, 2, 512]⟩
abbrev S1x2x512 : Shape := ⟨3, ![1, 2, 512]⟩

abbrev nBuf : Space → Nat
  | .hbm => 160
  | .vmem => 0
  | .smem => 0
  | _ => 0

abbrev hbmTy0_0 (i : Nat) : BufTy := match i % 128 with
  | 0 => ⟨S2x8192x512, .f32⟩
  | 1 => ⟨S2x8192x512, .f32⟩
  | 2 => ⟨S1x4x512, .f32⟩
  | 3 => ⟨S1x512, .f32⟩
  | 4 => ⟨S1x8x64x64, .f32⟩
  | 5 => ⟨S1x512, .f32⟩
  | 6 => ⟨S1x8x64x64, .f32⟩
  | 7 => ⟨S1x512, .f32⟩
  | 8 => ⟨S1x512, .f32⟩
  | 9 => ⟨S4x512, .f32⟩
  | 10 => ⟨S_, .i32⟩
  | 11 => ⟨S_, .f32⟩
  | 12 => ⟨S2x8195x512, .f32⟩
  | 13 => ⟨S2x8192x512, .f32⟩
  | 14 => ⟨S1x512, .f32⟩
  | 15 => ⟨S512, .f32⟩
  | 16 => ⟨S1x1x512, .f32⟩
  | 17 => ⟨S2x8192x512, .f32⟩
  | 18 => ⟨S2x8192x512, .f32⟩
  | 19 => ⟨S_, .f32⟩
  | 20 => ⟨S2x8192x512, .f32⟩
  | 21 => ⟨S2x8192x512, .f32⟩
  | 22 => ⟨S2x8192x512, .f32⟩
  | 23 => ⟨S1x512, .f32⟩
  | 24 => ⟨S512, .f32⟩
  | 25 => ⟨S1x1x512, .f32⟩
  | 26 => ⟨S2x8192x512, .f32⟩
  | 27 => ⟨S2x8192x512, .f32⟩
  | 28 => ⟨S2x8192x512, .f32⟩
  | 29 => ⟨S2x8192x512, .f32⟩
  | 30 => ⟨S1x512, .f32⟩
  | 31 => ⟨S512, .f32⟩
  | 32 => ⟨S1x1x512, .f32⟩
  | 33 => ⟨S2x8192x512, .f32⟩
  | 34 => ⟨S2x8192x512, .f32⟩
  | 35 => ⟨S2x8192x512, .f32⟩
  | 36 => ⟨S2x8192x512, .f32⟩
  | 37 => ⟨S1x512, .f32⟩
  | 38 => ⟨S512, .f32⟩
  | 39 => ⟨S1x1x512, .f32⟩
  | 40 => ⟨S2x8192x512, .f32⟩
  | 41 => ⟨S2x8192x512, .f32⟩
  | 42 => ⟨S2x8192x512, .f32⟩
  | 43 => ⟨S512, .f32⟩
  | 44 => ⟨S1x1x512, .f32⟩
  | 45 => ⟨S2x8192x512, .f32⟩
  | 46 => ⟨S2x8192x512, .f32⟩
  | 47 => ⟨S2x8192x8x64, .f32⟩
  | 48 => ⟨S8x64x64, .f32⟩
  | 49 => ⟨S8x64x2x8192, .f32⟩
  | 50 => ⟨S2x8192x8x64, .f32⟩
  | 51 => ⟨S2x8192x512, .f32⟩
  | 52 => ⟨S512, .f32⟩
  | 53 => ⟨S1x1x512, .f32⟩
  | 54 => ⟨S2x8192x512, .f32⟩
  | 55 => ⟨S2x8192x512, .f32⟩
  | 56 => ⟨S2x8192x512, .f32⟩
  | 57 => ⟨S2x8192x512, .f32⟩
  | 58 => ⟨S_, .f32⟩
  | 59 => ⟨S2x8192x512, .f32⟩
  | 60 => ⟨S2x8192x512, .f32⟩
  | 61 => ⟨S_, .f32⟩
  | 62 => ⟨S2x8192x512, .f32⟩
  | 63 => ⟨S2x8192x512, .f32⟩
  | 64 => ⟨S8x64x64, .f32⟩
  | 65 => ⟨S8x64x2x8192, .f32⟩
  | 66 => ⟨S2x8192x8x64, .f32⟩
  | 67 => ⟨S2x8192x512, .f32⟩
  | 68 => ⟨S512, .f32⟩
  | 69 => ⟨S1x1x512, .f32⟩
  | 70 => ⟨S2x8192x512, .f32⟩
  | 71 => ⟨S2x8192x512, .f32⟩
  | 72 => ⟨S2x8192x512, .f32⟩
  | 73 => ⟨S2x8192x512, .f32⟩
  | 74 => ⟨S_, .f32⟩
  | 75 => ⟨S2x8192x512, .f32⟩
  | 76 => ⟨S2x8192x512, .f32⟩
  | 77 => ⟨S_, .f32⟩
  | 78 => ⟨S2x8192x512, .f32⟩
  | 79 => ⟨S2x8192x512, .f32⟩
  | 80 => ⟨S_, .f32⟩
  | 81 => ⟨S2x8192x512, .f32⟩
  | 82 => ⟨S2x8192x512, .f32⟩
  | 83 => ⟨S512, .f32⟩
  | 84 => ⟨S512, .f32⟩
  | 85 => ⟨S_, .f32⟩
  | 86 => ⟨S512, .f32⟩
  | 87 => ⟨S512, .f32⟩
  | 88 => ⟨S512, .f32⟩
  | 89 => ⟨S512, .f32⟩
  | 90 => ⟨S512, .i1⟩
  | 91 => ⟨S512, .f32⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S1x1x512, .f32⟩
  | 100 => ⟨S2x8192x512, .f32⟩
  | 101 => ⟨S2x8192x512, .f32⟩
  | 102 => ⟨S2x8192x512, .f32⟩
  | 103 => ⟨S_, .f32⟩
  | 104 => ⟨S2x8192x512, .f32⟩
  | 105 => ⟨S2x8192x512, .f32⟩
  | 106 => ⟨S2x8192x512, .f32⟩
  | 107 => ⟨S2x8192x512, .f32⟩
  | 108 => ⟨S2x8192x512, .f32⟩
  | 109 => ⟨S2x8192x512, .f32⟩
  | 110 => ⟨S2x8192x512, .f32⟩
  | 111 => ⟨S_, .f32⟩
  | 112 => ⟨S2x512, .f32⟩
  | 113 => ⟨S8192x2x512, .f32⟩
  | 114 => ⟨S8192x2x512, .f32⟩
  | 115 => ⟨S_, .f32⟩
  | 116 => ⟨S8192x2x512, .f32⟩
  | 117 => ⟨S_, .i32⟩
  | 118 => ⟨S8192x2x512, .f32⟩
  | 119 => ⟨S8192x2x512, .f32⟩
  | 120 => ⟨S_, .i32⟩
  | 121 => ⟨S2x512, .f32⟩
  | 122 => ⟨S8192x2x512, .f32⟩
  | 123 => ⟨S_, .i32⟩
  | 124 => ⟨S_, .i1⟩
  | 125 => ⟨S_, .i32⟩
  | 126 => ⟨S_, .i32⟩
  | 127 => ⟨S1x2x512, .f32⟩
  | _ => ⟨S2x8192x512, .f32⟩

abbrev hbmTy0_1 (i : Nat) : BufTy := match i % 128 with
  | 0 => ⟨S2x512, .f32⟩
  | 1 => ⟨S_, .i32⟩
  | 2 => ⟨S_, .i32⟩
  | 3 => ⟨S1x2x512, .f32⟩
  | 4 => ⟨S2x512, .f32⟩
  | 5 => ⟨S2x512, .f32⟩
  | 6 => ⟨S2x512, .f32⟩
  | 7 => ⟨S1x2x512, .f32⟩
  | 8 => ⟨S_, .i32⟩
  | 9 => ⟨S_, .i32⟩
  | 10 => ⟨S8192x2x512, .f32⟩
  | 11 => ⟨S_, .i32⟩
  | 12 => ⟨S_, .i32⟩
  | 13 => ⟨S2x8192x512, .f32⟩
  | 14 => ⟨S2x8192x512, .f32⟩
  | 15 => ⟨S2x8192x512, .f32⟩
  | 16 => ⟨S_, .f32⟩
  | 17 => ⟨S2x8192x512, .f32⟩
  | 18 => ⟨S2x8192x512, .f32⟩
  | 19 => ⟨S2x8192x512, .f32⟩
  | 20 => ⟨S_, .f32⟩
  | 21 => ⟨S2x8192x512, .f32⟩
  | 22 => ⟨S2x8192x512, .f32⟩
  | 23 => ⟨S2x8192x512, .f32⟩
  | 24 => ⟨S_, .f32⟩
  | 25 => ⟨S2x8192x512, .f32⟩
  | 26 => ⟨S2x8192x512, .f32⟩
  | 27 => ⟨S_, .f32⟩
  | 28 => ⟨S2x8192x512, .f32⟩
  | 29 => ⟨S2x8192x512, .f32⟩
  | 30 => ⟨S2x8192x512, .f32⟩
  | 31 => ⟨S2x8192x512, .f32⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_0 : Ref sig .tc := ⟨.hbm, 58, rfl⟩
abbrev main_v46 : Ref sig .tc := ⟨.hbm, 59, rfl⟩
abbrev main_v47 : Ref sig .tc := ⟨.hbm, 60, rfl⟩
abbrev main_cst_1 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_2 : Ref sig .tc := ⟨.hbm, 74, rfl⟩
abbrev main_v60 : Ref sig .tc := ⟨.hbm, 75, rfl⟩
abbrev main_v61 : Ref sig .tc := ⟨.hbm, 76, rfl⟩
abbrev main_cst_3 : Ref sig .tc := ⟨.hbm, 77, rfl⟩
abbrev main_v62 : Ref sig .tc := ⟨.hbm, 78, rfl⟩
abbrev main_v63 : Ref sig .tc := ⟨.hbm, 79, rfl⟩
abbrev main_cst_4 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_6 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_7 : Ref sig .tc := ⟨.hbm, 115, rfl⟩
abbrev main_v83 : Ref sig .tc := ⟨.hbm, 116, rfl⟩
abbrev main_c_8 : Ref sig .tc := ⟨.hbm, 117, rfl⟩
abbrev main_v84_0 : Ref sig .tc := ⟨.hbm, 118, rfl⟩
abbrev main_v84_1 : Ref sig .tc := ⟨.hbm, 119, rfl⟩
abbrev main_v84_2 : Ref sig .tc := ⟨.hbm, 120, rfl⟩
abbrev main_v84_3 : Ref sig .tc := ⟨.hbm, 121, rfl⟩
abbrev main_v84_4 : Ref sig .tc := ⟨.hbm, 122, rfl⟩
abbrev main_while0c_c_17 : Ref sig .tc := ⟨.hbm, 123, rfl⟩
abbrev main_while0c_v100 : Ref sig .tc := ⟨.hbm, 124, rfl⟩
abbrev main_while0b_call2_c : Ref sig .tc := ⟨.hbm, 125, rfl⟩
abbrev main_while0b_call2_c_0 : Ref sig .tc := ⟨.hbm, 126, rfl⟩
abbrev main_while0b_call2_v0 : Ref sig .tc := ⟨.hbm, 127, rfl⟩
abbrev main_while0b_v100 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_call3_v0 : Ref sig .tc := ⟨.hbm, 131, rfl⟩
abbrev main_while0b_v101 : Ref sig .tc := ⟨.hbm, 132, rfl⟩
abbrev main_while0b_v102 : Ref sig .tc := ⟨.hbm, 133, rfl⟩
abbrev main_while0b_v103 : Ref sig .tc := ⟨.hbm, 134, rfl⟩
abbrev main_while0b_call4_v0 : Ref sig .tc := ⟨.hbm, 135, rfl⟩
abbrev main_while0b_call4_c : Ref sig .tc := ⟨.hbm, 136, rfl⟩
abbrev main_while0b_call4_c_0 : Ref sig .tc := ⟨.hbm, 137, rfl⟩
abbrev main_while0b_v104 : Ref sig .tc := ⟨.hbm, 138, rfl⟩
abbrev main_while0b_c_17 : Ref sig .tc := ⟨.hbm, 139, rfl⟩
abbrev main_while0b_v105 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_9 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_10 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_11 : Ref sig .tc := ⟨.hbm, 152, rfl⟩
abbrev main_v94 : Ref sig .tc := ⟨.hbm, 153, rfl⟩
abbrev main_v95 : Ref sig .tc := ⟨.hbm, 154, rfl⟩
abbrev main_cst_12 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x1024 : Shape := ⟨2, ![16384, 1024]⟩
abbrev S16384x128 : Shape := ⟨2, ![16384, 128]⟩
abbrev S1x2x8192x256 : Shape := ⟨4, ![1, 2, 8192, 256]⟩
abbrev S1x16x1024x1024 : Shape := ⟨4, ![1, 16, 1024, 1024]⟩
abbrev S1x16x512x1024 : Shape := ⟨4, ![1, 16, 512, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S2x8192x256 : Shape := ⟨3, ![2, 8192, 256]⟩
abbrev S16384x256 : Shape := ⟨2, ![16384, 256]⟩
abbrev S16x1024x1024 : Shape := ⟨3, ![16, 1024, 1024]⟩
abbrev S16x512x1024 : Shape := ⟨3, ![16, 512, 1024]⟩
abbrev S1024x1024 : Shape := ⟨2, ![1024, 1024]⟩
abbrev S256x1024 : Shape := ⟨2, ![256, 1024]⟩
abbrev S1024 : Shape := ⟨1, ![1024]⟩
abbrev S1024x128 : Shape := ⟨2, ![1024, 128]⟩
abbrev S1024x256 : Shape := ⟨2, ![1024, 256]⟩
abbrev S1x512x1024 : Shape := ⟨3, ![1, 512, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 24
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1x2x8192x256, .f32⟩
  | .hbm, ⟨3, _⟩ => ⟨S1x16x1024x1024, .f32⟩
  | .hbm, ⟨4, _⟩ => ⟨S1x16x512x1024, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S2x8192x256, .f32⟩
  | .hbm, ⟨10, _⟩ => ⟨S16384x256, .f32⟩
  | .hbm, ⟨11, _⟩ => ⟨S16x1024x1024, .f32⟩
  | .hbm, ⟨12, _⟩ => ⟨S16x1024x1024, .bf16⟩
  | .hbm, ⟨13, _⟩ => ⟨S16x512x1024, .f32⟩
  | .hbm, ⟨14, _⟩ => ⟨S16x512x1024, .bf16⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x1024 : Shape := ⟨2, ![16384, 1024]⟩
abbrev S16384x128 : Shape := ⟨2, ![16384, 128]⟩
abbrev S1x2x8192x256 : Shape := ⟨4, ![1, 2, 8192, 256]⟩
abbrev S1x16x1024x1024 : Shape := ⟨4, ![1, 16, 1024, 1024]⟩
abbrev S1x16x512x1024 : Shape := ⟨4, ![1, 16, 512, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S16x1024x1024 : Shape := ⟨3, ![16, 1024, 1024]⟩
abbrev S16x1024x16384 : Shape := ⟨3, ![16, 1024, 16384]⟩
abbrev S16x16384x1024 : Shape := ⟨3, ![16, 16384, 1024]⟩
abbrev S16x16384x512 : Shape := ⟨3, ![16, 16384, 512]⟩
abbrev S_ : Shape := ⟨0, ![]⟩
abbrev S16x512x1024 : Shape := ⟨3, ![16, 512, 1024]⟩
abbrev S16384x16 : Shape := ⟨2, ![16384, 16]⟩
abbrev S16x16384 : Shape := ⟨2, ![16, 16384]⟩
abbrev S16x16384x1 : Shape := ⟨3, ![16, 16384, 1]⟩
abbrev S1024x1024 : Shape := ⟨2, ![1024, 1024]⟩
abbrev S2x8192x256 : Shape := ⟨3, ![2, 8192, 256]⟩
abbrev S16384x256 : Shape := ⟨2, ![16384, 256]⟩
abbrev S256x1024 : Shape := ⟨2, ![256, 1024]⟩
abbrev S1024 : Shape := ⟨1, ![1024]⟩
abbrev S16384 : Shape := ⟨1, ![16384]⟩
abbrev S16384x1 : Shape := ⟨2, ![16384, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1x2x8192x256, .f32⟩
  | .hbm, ⟨3, _⟩ => ⟨S1x16x1024x1024, .f32⟩
  | .hbm, ⟨4, _⟩ => ⟨S1x16x512x1024, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S16x1024x1024, .f32⟩
  | .hbm, ⟨10, _⟩ => ⟨S16x1024x16384, .f32⟩
  | .hbm, ⟨11, _⟩ => ⟨S16x16384x1024, .f32⟩
  | .hbm, ⟨12, _⟩ => ⟨S16x16384x512, .f32⟩
  | .hbm, ⟨13, _⟩ => ⟨S16x16384x512, .f32⟩
  | .hbm, ⟨14, _⟩ => ⟨S16x16384x512, .f32⟩
  | .hbm, ⟨15, _⟩ => ⟨S16x16384x512, .f32⟩
  | .hbm, ⟨16, _⟩ => ⟨S_, .f32⟩
  | .hbm, ⟨17, _⟩ => ⟨S16x16384x512, .f32⟩
  | .hbm, ⟨18, _⟩ => ⟨S16x16384x512, .f32⟩
  | .hbm, ⟨19, _⟩ => ⟨S_, .f32⟩
  | .hbm, ⟨20, _⟩ => ⟨S16x16384x512, .f32⟩
  | .hbm, ⟨21, _⟩ => ⟨S16x16384x512, .f32⟩
  | .hbm, ⟨22, _⟩ => ⟨S16x16384x512, .f32⟩
  | .hbm, ⟨23, _⟩ => ⟨S16x16384x512, .f32⟩
  | .hbm, ⟨24, _⟩ => ⟨S16x512x1024, .f32⟩
  | .hbm, ⟨25, _⟩ => ⟨S16x16384x1024, .f32⟩
  | .hbm, ⟨26, _⟩ => ⟨S16384x16, .f32⟩
  | .hbm, ⟨27, _⟩ => ⟨S16x16384, .f32⟩
  | .hbm, ⟨28, _⟩ => ⟨S16x16384x1, .f32⟩
  | .hbm, ⟨29, _⟩ => ⟨S16x16384x1024, .f32⟩
  | .hbm, ⟨30, _⟩ => ⟨S16x16384x1024, .f32⟩
  | .hbm, ⟨31, _⟩ => ⟨S_, .f32⟩
  | .hbm, ⟨32, _⟩ => ⟨S16384x1024, .f32⟩
  | .hbm, ⟨33, _⟩ => ⟨S1024x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S2x8192x256, .f32⟩
  | .hbm, ⟨44, _⟩ => ⟨S16384x256, .f32⟩
  | .hbm, ⟨45, _⟩ => ⟨S256x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024x2328 : Shape := ⟨3, ![1, 1024, 2328]⟩
abbrev S1024x2328 : Shape := ⟨2, ![1024, 2328]⟩
abbrev S1024x512 : Shape := ⟨2, ![1024, 512]⟩
abbrev S_ : Shape := ⟨0, ![]⟩
abbrev S1024x24 : Shape := ⟨2, ![1024, 24]⟩
abbrev S1024x128 : Shape := ⟨2, ![1024, 128]⟩
abbrev S1024x1024 : Shape := ⟨2, ![1024, 1024]⟩
abbrev S1024x2176 : Shape := ⟨2, ![1024, 2176]⟩
abbrev S1024x768 : Shape := ⟨2, ![1024, 768]⟩
abbrev S768x1024 : Shape := ⟨2, ![768, 1024]⟩
abbrev S16384x1024 : Shape := ⟨2, ![16384, 1024]⟩
abbrev S16384x512 : Shape := ⟨2, ![16384, 512]⟩
abbrev S16384x128 : Shape := ⟨2, ![16384, 128]⟩
abbrev S2x768x8192 : Shape := ⟨3, ![2, 768, 8192]⟩
abbrev S512x1024 : Shape := ⟨2, ![512, 1024]⟩
abbrev S512x512 : Shape := ⟨2, ![512, 512]⟩
abbrev S512x128 : Shape := ⟨2, ![512, 128]⟩
abbrev S1x768x512 : Shape := ⟨3, ![1, 768, 512]⟩
abbrev S768x512 : Shape := ⟨2, ![768, 512]⟩

abbrev nBuf : Space → Nat
  | .hbm => 33
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1x1024x2328, .f32⟩
  | .hbm, ⟨2, _⟩ => ⟨S1024x2328, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x24, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x1024, .f32⟩
  | .hbm, ⟨16, _⟩ => ⟨S1024x2176, .f32⟩
  | .hbm, ⟨17, _⟩ => ⟨S1024x2176, .bf16⟩
  | .hbm, ⟨18, _⟩ => ⟨S1024x128, .f32⟩
  | .hbm, ⟨19, _⟩ => ⟨S1024x128, .f32⟩
  | .hbm, ⟨20, _⟩ => ⟨S1024x768, .f32⟩
  | .hbm, ⟨21, _⟩ => ⟨S768x1024, .f32⟩
  | .hbm, ⟨22, _⟩ => ⟨S768x1024, .bf16⟩
  | .hbm, ⟨23, _⟩ => ⟨S16384x1024, .f32⟩
  | .hbm, ⟨24, _⟩ => ⟨S16384x512, .bf16⟩
  | .hbm, ⟨25, _⟩ => ⟨S16384x128, .f32⟩
  | .hbm, ⟨26, _⟩ => ⟨S16384x128, .f32⟩
  | .hbm, ⟨27, _⟩ => ⟨S16384x128, .bf16⟩
  | .hbm, ⟨28, _⟩ => ⟨S16384x128, .bf16⟩
  | .hbm, ⟨29, _⟩ => ⟨S16384x128, .f32⟩
  | .hbm, ⟨30, _⟩ => ⟨S16384x512, .f32⟩
  | .hbm, ⟨31, _⟩ => ⟨S16384x512, .f32⟩
  | .hbm, ⟨32, _⟩ => ⟨S2x768x8192, .bf16⟩
  | .local _ .vmem, ⟨0, _⟩ => ⟨S512x1024, .f32⟩
  | .local _ .vmem, ⟨1, _⟩ => ⟨S512x1024, .f32⟩
  | .local _ .vmem, ⟨2, _⟩ => ⟨S1024x2176, .bf16⟩
  | .local _ .vmem, ⟨3, _⟩ => ⟨S768x1024, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S1x768x512, .bf16⟩
  | .local _ .vmem, ⟨21, _⟩ => ⟨S1x768x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev main_v19_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x768x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S2x8192x1024 : Shape := ⟨3, ![2, 8192, 1024]⟩
abbrev S1x1024x2328 : Shape := ⟨3, ![1, 1024, 2328]⟩
abbrev S1024x2328 : Shape := ⟨2, ![1024, 2328]⟩
abbrev S2x8192x2328 : Shape := ⟨3, ![2, 8192, 2328]⟩
abbrev S2x8192x512 : Shape := ⟨3, ![2, 8192, 512]⟩
abbrev S2x8192x768 : Shape := ⟨3, ![2, 8192, 768]⟩
abbrev S2x8192x24 : Shape := ⟨3, ![2, 8192, 24]⟩
abbrev S_ : Shape := ⟨0, ![]⟩
abbrev S2x8192x128 : Shape := ⟨3, ![2, 8192, 128]⟩
abbrev S2x768x8192 : Shape := ⟨3, ![2, 768, 8192]⟩
abbrev S16384x512 : Shape := ⟨2, ![16384, 512]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x2328, .f32⟩
  | .hbm, ⟨2, _⟩ => ⟨S1024x2328, .f32⟩
  | .hbm, ⟨3, _⟩ => ⟨S2x8192x2328, .f32⟩
  | .hbm, ⟨4, _⟩ => ⟨S2x8192x512, .f32⟩
  | .hbm, ⟨5, _⟩ => ⟨S2x8192x768, .f32⟩
  | .hbm, ⟨6, _⟩ => ⟨S2x8192x24, .f32⟩
  | .hbm, ⟨7, _⟩ => ⟨S2x8192x512, .f32⟩
  | .hbm, ⟨8, _⟩ => ⟨S2x8192x512, .f32⟩
  | .hbm, ⟨9, _⟩ => ⟨S_, .f32⟩
  | .hbm, ⟨10, _⟩ => ⟨S2x8192x512, .f32⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S_, .i32⟩
  | .hbm, ⟨19, _⟩ => ⟨S_, .f32⟩
  | .hbm, ⟨20, _⟩ => ⟨S2x8192x128, .f32⟩
  | .hbm, ⟨21, _⟩ => ⟨S2x8192x128, .f32⟩
  | .hbm, ⟨22, _⟩ => ⟨S2x8192x128, .f32⟩
  | .hbm, ⟨23, _⟩ => ⟨S_, .f32⟩
  | .hbm, ⟨24, _⟩ => ⟨S2x8192x128, .f32⟩
  | .hbm, ⟨25, _⟩ => ⟨S2x8192x128, .f32⟩
  | .hbm, ⟨26, _⟩ => ⟨S_, .f32⟩
  | .hbm, ⟨27, _⟩ => ⟨S2x8192x128, .f32⟩
  | .hbm, ⟨28, _⟩ => ⟨S2x8192x128, .f32⟩
  | .hbm, ⟨29, _⟩ => ⟨S2x8192x768, .f32⟩
  | .hbm, ⟨30, _⟩ => ⟨S2x768x8192, .f32⟩
  | .hbm, ⟨31, _⟩ => ⟨S16384x512, .f32⟩
  | .hbm, ⟨32, _⟩ => ⟨S16384x512, .bf16⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S16384x128, .bf16⟩
  | .hbm, ⟨37, _⟩ => ⟨S16384x128, .f32⟩
  | .hbm, ⟨38, _⟩ => ⟨S16384x128, .bf16⟩
  | .hbm, ⟨39, _⟩ => ⟨S16384x128, .f32⟩
  | .hbm, ⟨40, _⟩ => ⟨S16384x512, .f32⟩
  | .hbm, ⟨41, _⟩ => ⟨S16384x512, .f32⟩
  | .hbm, ⟨42, _⟩ => ⟨S2x768x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel4.lean ====
abbrev S2x8192x512 : Shape := ⟨3, ![2, 8192, 512]⟩
abbrev S2x8192x1024 : Shape := ⟨3, ![2, 8192, 1024]⟩
abbrev S1x512 : Shape := ⟨2, ![1, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1024x4 : Shape := ⟨2, ![1024, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S4 : Shape := ⟨1, ![4]⟩
abbrev S16 : Shape := ⟨1, ![16]⟩
abbrev S20 : Shape := ⟨1, ![20]⟩
abbrev S128 : Shape := ⟨1, ![128]⟩
abbrev S1x128 : Shape := ⟨2, ![1, 128]⟩
abbrev S16384x512 : Shape := ⟨2, ![16384, 512]⟩
abbrev S16384x1024 : Shape := ⟨2, ![16384, 1024]⟩
abbrev S512 : Shape := ⟨1, ![512]⟩
abbrev S1024x1024 : Shape := ⟨2, ![1024, 1024]⟩
abbrev S1024 : Shape := ⟨1, ![1024]⟩
abbrev S16384x128 : Shape := ⟨2, ![16384, 128]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩

abbrev nBuf : Space → Nat
  | .hbm => 44
  | .vmem => 18
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x16, .f32⟩
  | .hbm, ⟨11, _⟩ => ⟨S1x16, .f32⟩
  | .hbm, ⟨12, _⟩ => ⟨S1024x4, .f32⟩
  | .hbm, ⟨13, _⟩ => ⟨S1024x16, .f32⟩
  | .hbm, ⟨14, _⟩ => ⟨S1024x20, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S4, .f32⟩
  | .hbm, ⟨23, _⟩ => ⟨S16, .f32⟩
  | .hbm, ⟨24, _⟩ => ⟨S20, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S16384x512, .f32⟩
  | .hbm, ⟨30, _⟩ => ⟨S16384x512, .f32⟩
  | .hbm, ⟨31, _⟩ => ⟨S16384x1024, .f32⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S1024x128, .bf16⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S2x8192x512 : Shape := ⟨3, ![2, 8192, 512]⟩
abbrev S2x8192x1024 : Shape := ⟨3, ![2, 8192, 1024]⟩
abbrev S1x512 : Shape := ⟨2, ![1, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x16, .f32⟩
  | .hbm, ⟨11, _⟩ => ⟨S1x16, .f32⟩
  | .hbm, ⟨12, _⟩ => ⟨S512, .f32⟩
  | .hbm, ⟨13, _⟩ => ⟨S2x8192x512, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x512, .f32⟩
  | .hbm, ⟨25, _⟩ => ⟨S2x8192x512, .f32⟩
  | .hbm, ⟨26, _⟩ => ⟨S1x1x512, .f32⟩
  | .hbm, ⟨27, _⟩ => ⟨S2x8192x512, .f32⟩
  | .hbm, ⟨28, _⟩ => ⟨S2x8192x512, .f32⟩
  | .hbm, ⟨29, _⟩ => ⟨S512, .f32⟩
  | .hbm, ⟨30, _⟩ => ⟨S2x8192x512, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x512, .f32⟩
  | .hbm, ⟨42, _⟩ => ⟨S2x8192x512, .f32⟩
  | .hbm, ⟨43, _⟩ => ⟨S1x1x512, .f32⟩
  | .hbm, ⟨44, _⟩ => ⟨S2x8192x512, .f32⟩
  | .hbm, ⟨45, _⟩ => ⟨S2x8192x512, .f32⟩
  | .hbm, ⟨46, _⟩ => ⟨S2x8192x1024, .f32⟩
  | .hbm, ⟨47, _⟩ => ⟨S_, .f32⟩
  | .hbm, ⟨48, _⟩ => ⟨S2x8192x1024, .f32⟩
  | .hbm, ⟨49, _⟩ => ⟨S2x8192x1024, .f32⟩
  | .hbm, ⟨50, _⟩ => ⟨S1024x1024, .f32⟩
  | .hbm, ⟨51, _⟩ => ⟨S2x8192x1024, .f32⟩
  | .hbm, ⟨52, _⟩ => ⟨S2x8192x1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S2x8192, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S2x8192x1, .f32⟩
  | .hbm, ⟨76, _⟩ => ⟨S2x8192x1024, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | .hbm, ⟨81, _⟩ => ⟨S1x1x1024, .f32⟩
  | .hbm, ⟨82, _⟩ => ⟨S2x8192x1024, .f32⟩
  | .hbm, ⟨83, _⟩ => ⟨S2x8192x1024, .f32⟩
  | .hbm, ⟨84, _⟩ => ⟨S16384x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.RgScan.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Claim
public import Idealize.ShloMosaic.Lib.WritesUnit
public import Idealize.ShloMosaic.Lib.VecWindow
public import Idealize.ShloMosaic.Lib.Pointwise.Index

@[expose] public section

set_option maxRecDepth 16384

noncomputable section

namespace Cert.KernelIdeal.Rg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight rows the loop's trip `k` reads and rewrites. -/
abbrev rows8 (k : Fin k0_t1_loop.trips) : Rect S512x512 :=
  Rect.unit (s := S512x512) (k0_off1 k) S8x512.size (k0_off1_inb k)

/-- What trip `k` of the loop over groups of eight rows makes of the state before it: the last row of the state
    carried so far, on eight rows, and the groups written so far, the last one first. -/
@[irreducible] def scanStep (arg14 arg15 : Memref sig .tc .vmem S512x512 .f32) (X : BufTy.Contents (Elt F) arg14.view.ty)
    (G : BufTy.Contents (Elt F) arg15.view.ty) (k : ℕ) (p : Vec F S8x512 .f32 × List (View.Piece (Elt F) S512x512 .f32)) :
    Vec F S8x512 .f32 × List (View.Piece (Elt F) S512x512 .f32) :=
  if h : k < k0_t1_loop.trips then
    (k0_pay3 p.1 (arg14.view.readAt (Elt F) (rows8 ⟨k, h⟩).toLoadRect X)
        (arg15.view.readAt (Elt F) (rows8 ⟨k, h⟩).toLoadRect (arg15.view.writes (Elt F) G p.2)),
      ⟨rows8 ⟨k, h⟩, k0_pay2 p.1 (arg14.view.readAt (Elt F) (rows8 ⟨k, h⟩).toLoadRect X)
        (arg15.view.readAt (Elt F) (rows8 ⟨k, h⟩).toLoadRect (arg15.view.writes (Elt F) G p.2))⟩ :: p.2)
  else p

/-- The state before trip `k` of the loop over groups of eight rows. -/
def scanSt (arg14 arg15 : Memref sig .tc .vmem S512x512 .f32) (X : BufTy.Contents (Elt F) arg14.view.ty)
    (G : BufTy.Contents (Elt F) arg15.view.ty) (init : Vec F S8x512 .f32) :
    ℕ → Vec F S8x512 .f32 × List (View.Piece (Elt F) S512x512 .f32)
  | 0 => (init, [])
  | k + 1 => scanStep arg14 arg15 X G k (scanSt arg14 arg15 X G init k)

/-- One trip's step of `scanSt`. -/
theorem scanSt_succ (arg14 arg15 : Memref sig .tc .vmem S512x512 .f32) (X : BufTy.Contents (Elt F) arg14.view.ty)
    (G : BufTy.Contents (Elt F) arg15.view.ty) (init : Vec F S8x512 .f32) (k : Fin k0_t1_loop.trips) :
    scanSt arg14 arg15 X G init (k.val + 1)
      = (k0_pay3 (scanSt arg14 arg15 X G init k).1 (arg14.view.readAt (Elt F) (rows8 k).toLoadRect X)
          (arg15.view.readAt (Elt F) (rows8 k).toLoadRect (arg15.view.writes (Elt F) G (scanSt arg14 arg15 X G init k).2)),
        ⟨rows8 k, k0_pay2 (scanSt arg14 arg15 X G init k).1 (arg14.view.readAt (Elt F) (rows8 k).toLoadRect X)
            (arg15.view.readAt (Elt F) (rows8 k).toLoadRect (arg15.view.writes (Elt F) G (scanSt arg14 arg15 X G init k).2))⟩
          :: (scanSt arg14 arg15 X G init k).2) := by
  rw [scanSt.eq_2]; unfold scanStep; exact dif_pos k.isLt

/-- What holds before trip `k` of the loop: the decay buffer untouched, the other with the groups before `k`
    rewritten, and the carried value the state's. -/
abbrev scanInv (c : Dev nD) (arg14 arg15 : Memref sig .tc .vmem S512x512 .f32) (X : BufTy.Contents (Elt F) arg14.view.ty)
    (G : BufTy.Contents (Elt F) arg15.view.ty) (init : Vec F S8x512 .f32) (k : ℕ) (acc : Vec F S8x512 .f32) : sProp 𝕄 :=
  iprop((arg14.view.loc (c : Thread nD τ) ↦[arg14.view.set]{fullShare} X)
    ∗ (∃ f, (arg15.view.loc (c : Thread nD τ) ↦[arg15.view.set]{fullShare} f)
        ∗ ⌜f = arg15.view.writes (Elt F) G (scanSt arg14 arg15 X G init k).2⌝)
    ∗ ⌜acc = (scanSt arg14 arg15 X G init k).1⌝)

/-- One trip of the loop keeps `scanInv`. -/
theorem scan_step (c : Dev nD) (E : Set ℕ) (i : grid0.Coords) (arg2 : Memref sig .tc .vmem S1x512x512 .f32) (harg2 : arg2.IsWhole) (arg3 : Memref sig .tc .vmem S1x512x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S512x512 .f32) (harg14 : arg14.IsWhole) (arg15 : Memref sig .tc .vmem S512x512 .f32) (harg15 : arg15.IsWhole)
    (X : BufTy.Contents (Elt F) arg14.view.ty) (G : BufTy.Contents (Elt F) arg15.view.ty) (init : Vec F S8x512 .f32)
    (k : Fin k0_t1_loop.trips) (acc : Vec F S8x512 .f32) :
    scanInv c arg14 arg15 X G init k acc
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k acc) (scanInv c arg14 arg15 X G init (k.val + 1)) := by
  have hk : k.val < 64 := Nat.lt_of_lt_of_le k.isLt k0_t1_abs.2.1
  unfold k0_t1_body scanInv
  iintro ⟨HX, ⟨%f, HG, %hf⟩, %hacc⟩
  subst hf; subst hacc
  sl_exec
  sl_step
  isplitl [HX]; · iexact HX
  isplitl [HG]
  · iexists _; isplitl [HG]; · iexact HG
    ipureintro; exact congrArg (fun p => arg15.view.writes (Elt F) G p.2) (scanSt_succ arg14 arg15 X G init k).symm
  · ipureintro; rw [scanSt_succ]

set_option warn.classDefReducibility false in
/-- The loop by its invariant. -/
@[sl_loop] def scanLoop (c : Dev nD) (E : Set ℕ) (i : grid0.Coords) (arg2 : Memref sig .tc .vmem S1x512x512 .f32) (harg2 : arg2.IsWhole) (arg3 : Memref sig .tc .vmem S1x512x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S512x512 .f32) (harg14 : arg14.IsWhole) (arg15 : Memref sig .tc .vmem S512x512 .f32) (harg15 : arg15.IsWhole)
    (X : BufTy.Contents (Elt F) arg14.view.ty) (G : BufTy.Contents (Elt F) arg15.view.ty) (init : Vec F S8x512 .f32) :
    LoopInv (M := 𝕄) frame (wpE (defs₀ (F := F)) Variants.none (c : Thread nD τ) none) E
      k0_t1_loop.lb k0_t1_loop.ub k0_t1_loop.st k0_t1_ok init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15) where
  inv := scanInv c arg14 arg15 X G init
  step := scan_step c E i arg2 harg2 arg3 harg3 arg4 harg4 arg5 harg5 arg6 harg6 arg7 harg7 arg8 harg8 arg9 harg9 arg10 harg10 arg11 harg11 arg12 harg12 arg13 harg13 arg14 harg14 arg15 harg15 X G init

/-- The convolution's output of one time block, from the block, the eight rows before it, the four taps and the bias. -/
def cvec (x0 : Vec F S1x512x512 .f32) (s0 : Vec F S8x512 .f32) (x2 : Vec F S4x512 .f32) (x3 : Vec F S1x512 .f32) :
    FVec F S512x512 .f32 :=
  k0_pay9 x0 s0 x3 (View.ld x2 (Rect.unit (s := S4x512) ![0, 0] S1x512.size inb_S4x512_S1x512_0_0))
    (View.ld x2 (Rect.unit (s := S4x512) ![1, 0] S1x512.size inb_S4x512_S1x512_1_0))
    (View.ld x2 (Rect.unit (s := S4x512) ![2, 0] S1x512.size inb_S4x512_S1x512_2_0))
    (View.ld x2 (Rect.unit (s := S4x512) ![3, 0] S1x512.size inb_S4x512_S1x512_3_0))

/-- The decays the loop reads: products over the rows of a group up to each row. -/
def decays (v : FVec F S512x512 .f32) (x4 : Vec F S512x512 .bf16) (x5 x8 : Vec F S1x512 .f32) : FVec F S512x512 .f32 :=
  k0_pay23 (k0_pay13 v x4 x5 x8) 8#32 k0_pay15 k0_pay16 0#32

/-- The inputs the loop reads: each group's own recurrence, from zero. -/
def inputs (v : FVec F S512x512 .f32) (x4 : Vec F S512x512 .bf16) (x5 : Vec F S1x512 .f32) (x6 : Vec F S512x512 .bf16)
    (x7 x8 : Vec F S1x512 .f32) : FVec F S512x512 .f32 :=
  k0_pay24 (k0_pay13 v x4 x5 x8) (k0_pay14 v x4 x5 x6 x7 x8) 8#32 k0_pay15 k0_pay16 0#32

/-- The state carried into group `k`, on eight equal rows. -/
def carried (A B : Vec F S512x512 .f32) (h0 : Vec F S8x512 .f32) : ℕ → Vec F S8x512 .f32
  | 0 => h0
  | k + 1 => if h : k < k0_t1_loop.trips then
      k0_pay3 (carried A B h0 k) (View.ld A (rows8 ⟨k, h⟩)) (View.ld B (rows8 ⟨k, h⟩)) else carried A B h0 k

/-- One step of `carried`. -/
theorem carried_succ (A B : Vec F S512x512 .f32) (h0 : Vec F S8x512 .f32) (k : Fin k0_t1_loop.trips) :
    carried A B h0 (k.val + 1) = k0_pay3 (carried A B h0 k) (View.ld A (rows8 k)) (View.ld B (rows8 k)) := by
  rw [carried.eq_2, dif_pos k.isLt]

/-- The loop makes 64 trips. -/
theorem trips_eq : k0_t1_loop.trips = 64 := by decide +kernel

/-- The group a row lies in. -/
def groupOf (y : S512x512.Idx) : Fin k0_t1_loop.trips :=
  ⟨(y (0 : Fin 2)).val / 8, by rw [trips_eq]; have h : (y (0 : Fin 2)).val < 512 := (y (0 : Fin 2)).isLt; omega⟩

/-- A row's place within its group. -/
def inGroup (y : S512x512.Idx) : S8x512.Idx := ix2 (⟨(y (0 : Fin 2)).val % 8, Nat.mod_lt _ (by decide)⟩ : Fin 8) (y (1 : Fin 2))

/-- What the loop leaves in the buffer it rewrites. -/
def scanned (A B : Vec F S512x512 .f32) (h0 : Vec F S8x512 .f32) : Vec F S512x512 .f32 := fun y =>
  k0_pay2 (carried A B h0 (groupOf y).val) (View.ld A (rows8 (groupOf y))) (View.ld B (rows8 (groupOf y))) (inGroup y)

/-- Reading rows `8 k …` of contents that read `W` there. -/
theorem ld_rows_congr (W W' : S512x512.Idx → Elt F .f32) (k : Fin k0_t1_loop.trips)
    (h : ∀ y : S512x512.Idx, (y (0 : Fin 2)).val / 8 = k.val → W y = W' y) : View.ld W (rows8 k) = View.ld W' (rows8 k) := by
  funext x
  refine h _ ?_
  have h0 : k0_off1 k (0 : Fin 2) = 8 * k.val := by rw [k0_off1_eq]; rfl
  have hx : (x (0 : Fin 2)).val < 8 := (x (0 : Fin 2)).isLt
  show (k0_off1 k (0 : Fin 2) + 1 * (x (0 : Fin 2)).val) / 8 = k.val
  omega

/-- The loop's state: the carried rows are `carried`, and the buffer reads `scanned` on the groups done and what it
    held on the others. -/
theorem scan_state (arg14 arg15 : Memref sig .tc .vmem S512x512 .f32) (X : BufTy.Contents (Elt F) arg14.view.ty)
    (G : BufTy.Contents (Elt F) arg15.view.ty) (init : Vec F S8x512 .f32) (k : ℕ) (hk : k ≤ k0_t1_loop.trips) :
    (scanSt arg14 arg15 X G init k).1 = carried (arg14.view.read (Elt F) X) (arg15.view.read (Elt F) G) init k
    ∧ ∀ y : S512x512.Idx, arg15.view.read (Elt F) (arg15.view.writes (Elt F) G (scanSt arg14 arg15 X G init k).2) y
        = if (y (0 : Fin 2)).val / 8 < k then scanned (arg14.view.read (Elt F) X) (arg15.view.read (Elt F) G) init y
          else arg15.view.read (Elt F) G y := by
  induction k with
  | zero =>
    refine ⟨rfl, fun y => ?_⟩
    rw [if_neg (Nat.not_lt_zero _)]; rfl
  | succ k ih =>
    obtain ⟨ih1, ih2⟩ := ih (by omega)
    have hB : arg15.view.readAt (Elt F) (rows8 ⟨k, hk⟩).toLoadRect (arg15.view.writes (Elt F) G (scanSt arg14 arg15 X G init k).2)
        = View.ld (arg15.view.read (Elt F) G) (rows8 ⟨k, hk⟩) := by
      rw [View.readAt_eq_ld]
      refine ld_rows_congr _ _ _ fun y hy => ?_
      rw [ih2, if_neg (by show ¬ _ < k; have : (y (0 : Fin 2)).val / 8 = k := hy; omega)]
    have hs := scanSt_succ arg14 arg15 X G init ⟨k, hk⟩
    rw [hB, ih1, View.readAt_eq_ld] at hs
    have hs' : scanSt arg14 arg15 X G init (k + 1) = _ := hs
    rw [hs']
    refine ⟨(carried_succ _ _ _ ⟨k, hk⟩).symm, fun y => ?_⟩
    have hy : (y (0 : Fin 2)).val < 512 := (y (0 : Fin 2)).isLt
    by_cases hg : (y (0 : Fin 2)).val / 8 = k
    · rw [if_pos (by omega)]
      have hgr : groupOf y = ⟨k, hk⟩ := Fin.ext hg
      unfold scanned
      rw [hgr]
      exact View.read_writes_cons_rows_of_mem arg15.view G (o := 8 * k) _ _ _ y (inGroup y) (k0_off1_eq ⟨k, hk⟩)
        (by show _ = 8 * k + (y (0 : Fin 2)).val % 8; omega) rfl
    · have hk' := ih2 y
      rw [View.read_writes_cons_rows_of_not_mem arg15.view G (o := 8 * k) (W := 8) _ _ _ y (k0_off1_eq ⟨k, hk⟩) rfl
        (by omega), hk']
      by_cases h2 : (y (0 : Fin 2)).val / 8 < k
      · rw [if_pos h2, if_pos (by omega)]
      · rw [if_neg h2, if_neg (by omega)]

/-- The buffer read whole after the loop. -/
theorem scan_out (arg14 arg15 : Memref sig .tc .vmem S512x512 .f32) (X : BufTy.Contents (Elt F) arg14.view.ty)
    (L : List (View.Piece (Elt F) S512x512 .f32)) (init : Vec F S8x512 .f32) {A B : Vec F S512x512 .f32} {h0 : Vec F S8x512 .f32}
    (hX : arg14.view.read (Elt F) X = A) (hB : arg15.view.read (Elt F) (arg15.view.writes (Elt F) arg15.view.junk L) = B)
    (hi : init = h0) :
    arg15.view.readCov ((scanSt arg14 arg15 X (arg15.view.writes (Elt F) arg15.view.junk L) init
        (Scf.trips k0_t1_loop.lb k0_t1_loop.ub k0_t1_loop.st)).2 ++ L)
      (Rect.unit (s := S512x512) ![0, 0] S512x512.size inb_S512x512_S512x512_0_0).toLoadRect = scanned A B h0 := by
  subst hX hB hi
  unfold View.readCov
  rw [View.writes_append]
  refine (View.readAt_full _ _ _).trans (funext fun y => ?_)
  have h := (scan_state arg14 arg15 X (arg15.view.writes (Elt F) arg15.view.junk L) init k0_t1_loop.trips le_rfl).2 y
  exact h.trans (if_pos (groupOf y).isLt)

/-- The value the loop yields. -/
theorem scan_yield (arg14 arg15 : Memref sig .tc .vmem S512x512 .f32) (X : BufTy.Contents (Elt F) arg14.view.ty)
    (G : BufTy.Contents (Elt F) arg15.view.ty) (init : Vec F S8x512 .f32) {A B : Vec F S512x512 .f32} {h0 : Vec F S8x512 .f32}
    (hX : arg14.view.read (Elt F) X = A) (hB : arg15.view.read (Elt F) G = B) (hi : init = h0) :
    (scanSt arg14 arg15 X G init (Scf.trips k0_t1_loop.lb k0_t1_loop.ub k0_t1_loop.st)).1
      = carried A B h0 k0_t1_loop.trips := by
  subst hX hB hi
  exact (scan_state arg14 arg15 X G init k0_t1_loop.trips le_rfl).1

/-- A buffer of 512 rows written whole reads what was written. -/
theorem read_written (a : Memref sig .tc .vmem S512x512 .f32) {w w' : Vec F S512x512 .f32} (h : w = w') :
    a.view.read (Elt F) (a.view.writes (Elt F) a.view.junk
      [⟨Rect.unit (s := S512x512) ![0, 0] S512x512.size inb_S512x512_S512x512_0_0, w⟩]) = w' :=
  (View.read_writes_full a.view a.view.junk inb_S512x512_S512x512_0_0 w []).trans h

/-- A buffer of eight rows written whole loads what was written. -/
theorem load_written (a : Memref sig .tc .vmem S8x512 .f32) (w : Vec F S8x512 .f32) :
    a.view.readAt (Elt F) (Rect.unit (s := S8x512) ![0, 0] S8x512.size inb_S8x512_S8x512_0_0).toLoadRect
      (a.view.writes (Elt F) a.view.junk
        [⟨Rect.unit (s := S8x512) ![0, 0] S8x512.size inb_S8x512_S8x512_0_0, w⟩]) = w :=
  (View.readAt_full _ _ _).trans (View.read_writes_full a.view a.view.junk inb_S8x512_S8x512_0_0 w [])

/-- Congruence of `cvec` in what is loaded. -/
theorem cvec_of {v3 : Vec F S1x512x512 .f32} {v5 : Vec F S8x512 .f32} {v7 v9 v16 v22 v28 : Vec F S1x512 .f32}
    {x0 : Vec F S1x512x512 .f32} {s0 : Vec F S8x512 .f32} {x2 : Vec F S4x512 .f32} {x3 : Vec F S1x512 .f32}
    (h3 : v3 = x0) (h5 : v5 = s0) (h7 : v7 = x3)
    (h9 : v9 = View.ld x2 (Rect.unit (s := S4x512) ![0, 0] S1x512.size inb_S4x512_S1x512_0_0))
    (h16 : v16 = View.ld x2 (Rect.unit (s := S4x512) ![1, 0] S1x512.size inb_S4x512_S1x512_1_0))
    (h22 : v22 = View.ld x2 (Rect.unit (s := S4x512) ![2, 0] S1x512.size inb_S4x512_S1x512_2_0))
    (h28 : v28 = View.ld x2 (Rect.unit (s := S4x512) ![3, 0] S1x512.size inb_S4x512_S1x512_3_0)) :
    k0_pay9 v3 v5 v7 v9 v16 v22 v28 = cvec x0 s0 x2 x3 := by subst h3 h5 h7 h9 h16 h22 h28; rfl

/-- Congruence of `decays`. -/
theorem decays_of {v v' : FVec F S512x512 .f32} {y4 x4 : Vec F S512x512 .bf16} {y5 x5 y8 x8 : Vec F S1x512 .f32}
    (h : v = v') (h4 : y4 = x4) (h5 : y5 = x5) (h8 : y8 = x8) :
    k0_pay23 (k0_pay13 v y4 y5 y8) 8#32 k0_pay15 k0_pay16 0#32 = decays v' x4 x5 x8 := by subst h h4 h5 h8; rfl

/-- Congruence of `inputs`. -/
theorem inputs_of {v v' : FVec F S512x512 .f32} {y4 x4 y6 x6 : Vec F S512x512 .bf16} {y5 x5 y7 x7 y8 x8 : Vec F S1x512 .f32}
    (h : v = v') (h4 : y4 = x4) (h5 : y5 = x5) (h6 : y6 = x6) (h7 : y7 = x7) (h8 : y8 = x8) :
    k0_pay24 (k0_pay13 v y4 y5 y8) (k0_pay14 v y4 y5 y6 y7 y8) 8#32 k0_pay15 k0_pay16 0#32 = inputs v' x4 x5 x6 x7 x8 := by
  subst h h4 h5 h6 h7 h8; rfl

end Cert.KernelIdeal.Rg

end
-- ==== Proof.RgAlg.lean ====
module

public import Idealize.ShloMosaic.Lib.Pipeline.ValueKit

/-! # The linear recurrence, taken in runs

The recurrence `h ↦ a r * h + b r` over the extended reals. A run over several rows is itself a step `h ↦ A * h + B`;
composing two such steps needs the product to distribute over a sum, which it does for a coefficient that is not
negative and not `⊤`. -/

@[expose] public section

noncomputable section

namespace Cert.Rg

/-- A coefficient over which a product distributes. -/
def Mild (a : EReal) : Prop := 0 ≤ a ∧ a ≠ ⊤

/-- The product of two such coefficients is one. -/
theorem Mild.mul {a b : EReal} (ha : Mild a) (hb : Mild b) : Mild (a * b) := by
  obtain ⟨ha0, ha1⟩ := ha
  obtain ⟨hb0, hb1⟩ := hb
  lift a to ℝ using ⟨ha1, fun h => by simp [h] at ha0⟩
  lift b to ℝ using ⟨hb1, fun h => by simp [h] at hb0⟩
  refine ⟨mul_nonneg ha0 hb0, ?_⟩
  rw [← EReal.coe_mul]
  exact EReal.coe_ne_top _

/-- The product distributes. -/
theorem Mild.distrib {a : EReal} (ha : Mild a) (x y : EReal) : a * (x + y) = a * x + a * y :=
  EReal.left_distrib_of_nonneg_of_ne_top ha.1 ha.2 x y

/-- The recurrence over the `n` rows that end at row `r`, from the state `h`. -/
def run (a b : ℕ → EReal) (h : EReal) : ℕ → ℕ → EReal
  | _, 0 => h
  | r, n + 1 => a r * run a b h (r - 1) n + b r

/-- A run in two parts. -/
theorem run_add (a b : ℕ → EReal) (h : EReal) (k n : ℕ) : ∀ r, run a b h r (n + k) = run a b (run a b h (r - n) k) r n := by
  induction n with
  | zero => intro r; simp [run]
  | succ n ih =>
    intro r
    rw [Nat.add_right_comm]
    show a r * run a b h (r - 1) (n + k) + b r = a r * run a b (run a b h (r - (n + 1)) k) (r - 1) n + b r
    rw [ih, show r - 1 - n = r - (n + 1) by omega]

/-- In every row the step `A, B` is the run over the `s` rows that end there, cut at the start of its group of eight. -/
def Spans (a b : ℕ → EReal) (s : ℕ) (A B : ℕ → EReal) : Prop :=
  ∀ r, r < 512 → Mild (A r) ∧ ∀ h, A r * h + B r = run a b h r (min s (r % 8 + 1))

/-- The single steps. -/
theorem spans_one (a b : ℕ → EReal) (ha : ∀ r, r < 512 → Mild (a r)) : Spans a b 1 a b := by
  intro r hr
  refine ⟨ha r hr, fun h => ?_⟩
  rw [show min 1 (r % 8 + 1) = 1 by omega]
  rfl

/-- Doubling: a row whose group reaches back far enough takes in the step that ends `s` rows before it. -/
theorem spans_double {a b : ℕ → EReal} {s : ℕ} {A B A' B' : ℕ → EReal} (hS : Spans a b s A B)
    (hin : ∀ r, r < 512 → s ≤ r % 8 → A' r = A r * A (r - s) ∧ B' r = A r * B (r - s) + B r)
    (hout : ∀ r, r < 512 → ¬ s ≤ r % 8 → A' r = A r ∧ B' r = B r) : Spans a b (2 * s) A' B' := by
  intro r hr
  by_cases hs : s ≤ r % 8
  · have h1 := hS r hr
    have h2 := hS (r - s) (by omega)
    rw [(hin r hr hs).1, (hin r hr hs).2]
    refine ⟨h1.1.mul h2.1, fun h => ?_⟩
    rw [show min (2 * s) (r % 8 + 1) = min s (r % 8 + 1) + min s ((r - s) % 8 + 1) by omega, run_add,
      ← h1.2, show r - min s (r % 8 + 1) = r - s by omega, ← h2.2, h1.1.distrib, mul_assoc, add_assoc]
  · have h1 := hS r hr
    rw [(hout r hr hs).1, (hout r hr hs).2]
    refine ⟨h1.1, fun h => ?_⟩
    rw [h1.2, show min (2 * s) (r % 8 + 1) = min s (r % 8 + 1) by omega]

/-- The recurrence from zero: the state after `t` positions. -/
def seq (a b : ℕ → EReal) : ℕ → EReal
  | 0 => 0
  | t + 1 => a t * seq a b t + b t

/-- A run over rows counted from `base`, from the state before its first row, ends at the state of the recurrence. -/
theorem run_seq (a b : ℕ → EReal) (base : ℕ) (n : ℕ) : ∀ r, n ≤ r + 1 →
    run (fun x => a (base + x)) (fun x => b (base + x)) (seq a b (base + r + 1 - n)) r n = seq a b (base + r + 1) := by
  induction n with
  | zero => intro r _; rfl
  | succ n ih =>
    intro r hr
    cases r with
    | zero =>
      obtain rfl : n = 0 := by omega
      rfl
    | succ r =>
      show a (base + (r + 1)) * run _ _ _ r n + b (base + (r + 1)) = a (base + (r + 1)) * seq a b (base + (r + 1)) + b (base + (r + 1))
      rw [show base + (r + 1) + 1 - (n + 1) = base + r + 1 - n by omega, ih r (by omega)]
      rfl

/-- A run depends only on the rows it takes in. -/
theorem run_congr {a b a' b' : ℕ → EReal} (h : EReal) (n : ℕ) : ∀ r, (∀ x, x ≤ r → a x = a' x ∧ b x = b' x) →
    run a b h r n = run a' b' h r n := by
  induction n with
  | zero => intro r _; rfl
  | succ n ih =>
    intro r hr
    show a r * run a b h (r - 1) n + b r = a' r * run a' b' h (r - 1) n + b' r
    rw [ih (r - 1) (fun x hx => hr x (by omega)), (hr r le_rfl).1, (hr r le_rfl).2]

end Cert.Rg

end
-- ==== Proof.RgSpec.lean ====
module

public import proofs.«01_k».proof.Proof.RgAlg
public import Idealize.ShloMosaic.Lib.Pointwise

/-! # The recurrent branch, entry by entry

The formulas both programs are read against: the convolution over four positions, the two gates of a head, the decay
and the input of a position, and the state of the recurrence. Positions are natural numbers; a position before the
first one holds zero. -/

@[expose] public section

noncomputable section

namespace Cert.Rg

open Idealize.ShloMosaic

/-- The softplus `log (1 + exp z)`, written so that the exponential stays below one. -/
def softplus (z : EReal) : EReal := max z 0 + Ideal.log1p (Ideal.exp (-(FloatOps.absf (F := Ideal) (φ := .f32) z : EReal)))

/-- The arguments of the branch. -/
structure Args where
  /-- The convolution's input. -/
  x : Fin 2 → Fin 8192 → Fin 512 → EReal
  /-- The convolution's weights. -/
  cw : Fin 4 → Fin 512 → EReal
  /-- The convolution's bias. -/
  cb : Fin 512 → EReal
  /-- The recurrence gate's weights, per head. -/
  wa : Fin 8 → Fin 64 → Fin 64 → EReal
  /-- The recurrence gate's bias. -/
  ba : Fin 512 → EReal
  /-- The input gate's weights, per head. -/
  wx : Fin 8 → Fin 64 → Fin 64 → EReal
  /-- The input gate's bias. -/
  bx : Fin 512 → EReal
  /-- The recurrence's parameter. -/
  lam : Fin 512 → EReal

namespace Args

variable (G : Args) (b : Fin 2)

/-- The input at a position. -/
def at_ (d : Fin 512) (t : ℕ) : EReal := if h : t < 8192 then G.x b ⟨t, h⟩ d else 0

/-- The input `k` positions before `t`: zero before the first position. -/
def back (d : Fin 512) (k t : ℕ) : EReal := if k ≤ t then G.at_ b d (t - k) else 0

/-- The convolution. -/
def conv (t : ℕ) (d : Fin 512) : EReal :=
  G.back b d 3 t * G.cw 0 d + G.back b d 2 t * G.cw 1 d + G.back b d 1 t * G.cw 2 d + G.back b d 0 t * G.cw 3 d + G.cb d

end Args

/-- A gate of a head: the logistic of the head's linear form of the row `v`. -/
def gate (w : Fin 8 → Fin 64 → Fin 64 → EReal) (bias : Fin 512 → EReal) (v : Fin 512 → EReal) (d : Fin 512) : EReal :=
  Ideal.logistic (∑ e : Fin 64, w ⟨d.val / 64, by omega⟩ e ⟨d.val % 64, by omega⟩ * v ⟨d.val / 64 * 64 + e.val, by omega⟩ + bias d)

namespace Args

variable (G : Args) (b : Fin 2)

/-- The logarithm of the decay. -/
def logDecay (t : ℕ) (d : Fin 512) : EReal :=
  Ideal.ofBits .f32 3238002688#32 * gate G.wa G.ba (G.conv b t) d * softplus (-G.lam d)

/-- The decay. -/
def decay (d : Fin 512) (t : ℕ) : EReal := Ideal.exp (G.logDecay b t d)

/-- The input of a position to the recurrence. -/
def drive (d : Fin 512) (t : ℕ) : EReal :=
  Ideal.sqrt (1 - Ideal.exp (Ideal.ofBits .f32 1073741824#32 * G.logDecay b t d)) * (gate G.wx G.bx (G.conv b t) d * G.conv b t d)

/-- The state after `t` positions. -/
def state (d : Fin 512) (t : ℕ) : EReal := seq (G.decay b d) (G.drive b d) t

end Args

/-- The Gaussian error unit in its hyperbolic form. -/
def gelu (y : EReal) : EReal :=
  y * (Ideal.ofBits .f32 1056964608#32 * (1 + Ideal.tanh (Ideal.ofBits .f32 1061962282#32
    * (y + Ideal.ofBits .f32 1027024659#32 * (y * y * y)))))

/-- The exponential is not negative. -/
theorem exp_nonneg (z : EReal) : 0 ≤ Ideal.exp z := by
  induction z with
  | bot => exact le_refl _
  | top => exact le_top
  | coe r => exact EReal.coe_nonneg.mpr (Real.exp_pos r).le

/-- The exponential of a number that is not positive is a coefficient over which a product distributes. -/
theorem exp_mild {z : EReal} (h : z ≤ 0) : Mild (Ideal.exp z) := by
  refine ⟨exp_nonneg z, ?_⟩
  induction z with
  | bot => exact EReal.zero_ne_top
  | top => exact absurd h (by simp)
  | coe r => exact EReal.coe_ne_top _

/-- A gate is not negative. -/
theorem logistic_nonneg (z : EReal) : 0 ≤ Ideal.logistic z := by
  induction z with
  | bot => simp
  | top => simp
  | coe r =>
    rw [Ideal.logistic_coe]
    exact EReal.coe_nonneg.mpr (by positivity)

/-- The softplus is not negative. -/
theorem softplus_nonneg (z : EReal) : 0 ≤ softplus z := by
  refine add_nonneg (le_max_right _ _) ?_
  generalize Ideal.exp _ = e, exp_nonneg (-(FloatOps.absf (F := Ideal) (φ := .f32) z : EReal)) = h
  induction e with
  | bot => simp at h
  | top =>
    unfold Ideal.log1p
    rw [show (1 : EReal) + ⊤ = ⊤ from EReal.coe_add_top 1]
    exact le_top
  | coe r =>
    have hr : 0 ≤ r := EReal.coe_nonneg.mp h
    have : (1 : EReal) + (r : EReal) = ((1 + r : ℝ) : EReal) := by rw [EReal.coe_add, EReal.coe_one]
    unfold Ideal.log1p
    rw [this]
    show (0 : EReal) ≤ (if 1 + r ≤ 0 then ⊥ else (Real.log (1 + r) : EReal))
    rw [if_neg (by linarith)]
    exact EReal.coe_nonneg.mpr (Real.log_nonneg (by linarith))

/-- The logarithm of the decay is not positive. -/
theorem logDecay_nonpos (G : Args) (b : Fin 2) (t : ℕ) (d : Fin 512) : G.logDecay b t d ≤ 0 := by
  have e : Ideal.ofBits .f32 3238002688#32 = -((8 : ℝ) : EReal) := by
    simp [Ideal.ofBits, Ideal.ieee, -EReal.coe_mul]
    norm_num
  unfold Args.logDecay
  rw [e, EReal.neg_mul, EReal.neg_mul, EReal.neg_le, neg_zero]
  exact mul_nonneg (mul_nonneg (EReal.coe_nonneg.mpr (by norm_num)) (logistic_nonneg _)) (softplus_nonneg _)

/-- The decay is a coefficient over which a product distributes. -/
theorem decay_mild (G : Args) (b : Fin 2) (d : Fin 512) (t : ℕ) : Mild (G.decay b d t) := exp_mild (logDecay_nonpos G b t d)

/-- A block-diagonal matrix times a row is the head's own linear form. -/
theorem block_sum (w : Fin 8 → Fin 64 → Fin 64 → EReal) (v : Fin 512 → EReal) (W : Fin 512 → EReal) (d : Fin 512)
    (hW : ∀ k : Fin 512, W k = if k.val / 64 = d.val / 64
      then w ⟨k.val / 64, by omega⟩ ⟨k.val % 64, by omega⟩ ⟨d.val % 64, by omega⟩ else 0) :
    (∑ k : Fin 512, v k * W k : EReal)
      = ∑ e : Fin 64, w ⟨d.val / 64, by omega⟩ e ⟨d.val % 64, by omega⟩ * v ⟨d.val / 64 * 64 + e.val, by omega⟩ := by
  rw [← (finProdFinEquiv (m := 8) (n := 64)).sum_comp (fun k : Fin 512 => v k * W k), Fintype.sum_prod_type,
    Finset.sum_eq_single (⟨d.val / 64, by omega⟩ : Fin 8)]
  · refine Finset.sum_congr rfl fun e _ => ?_
    have hk : (finProdFinEquiv (m := 8) (n := 64) ((⟨d.val / 64, by omega⟩ : Fin 8), e) : Fin 512) = ⟨d.val / 64 * 64 + e.val, by omega⟩ :=
      Fin.ext (by show e.val + 64 * (d.val / 64) = d.val / 64 * 64 + e.val; omega)
    rw [hk, hW, if_pos (by show (d.val / 64 * 64 + e.val) / 64 = _; omega), mul_comm]
    congr 1
    congr 1
    · exact Fin.ext (by show (d.val / 64 * 64 + e.val) / 64 = d.val / 64; omega)
    · exact Fin.ext (by show (d.val / 64 * 64 + e.val) % 64 = e.val; omega)
  · intro n _ hn
    refine Finset.sum_eq_zero fun e _ => ?_
    rw [hW, if_neg, mul_zero]
    intro h
    refine hn (Fin.ext ?_)
    have h1 : (e.val + 64 * n.val) / 64 = d.val / 64 := h
    show n.val = d.val / 64
    omega
  · intro h; exact absurd (Finset.mem_univ _) h

end Cert.Rg

end
-- ==== Proof.RgPay.lean ====
module

public import proofs.«01_k».proof.Proof.RgScan
public import proofs.«01_k».proof.Proof.RgSpec
public import Idealize.ShloMosaic.Lib.Pipeline.ValueKit
public import Idealize.ShloMosaic.Lib.Pointwise
public import Idealize.ShloMosaic.Lib.KernelVsHost

/-! # One time block of the recurrent branch, entry by entry

What the body computes of a block of 512 positions of one batch row: the convolution, the decays and inputs of its
positions, their three doublings within groups of eight rows, and the scan over the groups. -/

@[expose] public section

set_option maxRecDepth 16384

noncomputable section

namespace Cert.KernelIdeal.Rg

open Idealize.ShloMosaic Idealize.ShloMosaic.TcCoe
open Cert.KernelIdeal Cert.KernelIdeal.Gen
open Cert.Rg (Args)

/-- The rows of a lane. -/
def colOf (v : FVec Ideal S512x512 .f32) (d : Fin 512) (r : ℕ) : EReal := if h : r < 512 then v (ix2 ⟨r, h⟩ d) else 0

/-- A row of a lane. -/
theorem colOf_at (v : FVec Ideal S512x512 .f32) (d : Fin 512) (r : ℕ) (h : r < 512) : colOf v d r = v (ix2 ⟨r, h⟩ d) := dif_pos h

/-- The row number within its group, as the body computes it. -/
theorem row_word (y d : Fin 512) : k0_pay17 8#32 k0_pay15 k0_pay16 0#32 (ix2 y d) = BitVec.ofNat 32 (y.val % 8) := by
  pointwise [k0_pay17, k0_pay15, k0_pay16]
  revert y
  decide +kernel

/-- The rows that the first doubling changes. -/
theorem mask_one (y d : Fin 512) :
    k0_pay18 8#32 k0_pay15 k0_pay16 0#32 (ix2 y d) = BitVec.ofBool (decide (1 ≤ y.val % 8)) := by
  pointwise [k0_pay18]
  rw [row_word]
  revert y
  decide +kernel

/-- The rows that the second doubling changes. -/
theorem mask_two (y d : Fin 512) :
    k0_pay20 8#32 k0_pay15 k0_pay16 0#32 (ix2 y d) = BitVec.ofBool (decide (2 ≤ y.val % 8)) := by
  pointwise [k0_pay20]
  rw [row_word]
  revert y
  decide +kernel

/-- The rows that the third doubling changes. -/
theorem mask_four (y d : Fin 512) :
    k0_pay22 8#32 k0_pay15 k0_pay16 0#32 (ix2 y d) = BitVec.ofBool (decide (4 ≤ y.val % 8)) := by
  pointwise [k0_pay22]
  rw [row_word]
  revert y
  decide +kernel

/-- A row of the rotated array, where the rotation does not wrap. -/
theorem rotated (sh : ℕ) (hsh : sh ≤ 8) (v : FVec Ideal S512x512 .f32) (y d : Fin 512) (h : sh ≤ y.val) :
    dynamicRotate 0 (BitVec.ofNat 32 sh) none v rotates_S512x512_d0 (ix2 y d) = v (ix2 ⟨y.val - sh, by omega⟩ d) := by
  refine dynamicRotate_apply 0 _ v _ _ _ fun b => ?_
  have e : (BitVec.ofNat 32 sh).toNat = sh := by rw [BitVec.toNat_ofNat]; omega
  fin_cases b
  · show y.val - sh = (y.val + 512 - (BitVec.ofNat 32 sh).toNat % 512) % 512
    rw [e]
    omega
  · rfl

/-- One doubling of the body. -/
theorem doubled (sh : ℕ) (hsh : sh ≤ 8) (A B : FVec Ideal S512x512 .f32) (mask : IVec S512x512 1)
    (hm : ∀ y d : Fin 512, mask (ix2 y d) = BitVec.ofBool (decide (sh ≤ y.val % 8))) (A' B' : FVec Ideal S512x512 .f32)
    (hA : ∀ i, A' i = select mask (mulf A (dynamicRotate 0 (BitVec.ofNat 32 sh) none A rotates_S512x512_d0)) A i)
    (hB : ∀ i, B' i = select mask (addf (mulf A (dynamicRotate 0 (BitVec.ofNat 32 sh) none B rotates_S512x512_d0)) B) B i)
    (d : Fin 512) (a b : ℕ → EReal) (hS : Cert.Rg.Spans a b sh (colOf A d) (colOf B d)) :
    Cert.Rg.Spans a b (2 * sh) (colOf A' d) (colOf B' d) := by
  refine Cert.Rg.spans_double hS ?_ ?_
  · intro r hr h
    rw [colOf_at _ _ r hr, colOf_at _ _ r hr, colOf_at _ _ r hr, colOf_at _ _ (r - sh) (by omega), colOf_at _ _ (r - sh) (by omega),
      colOf_at _ _ r hr, hA, hB]
    have e : mask (ix2 ⟨r, hr⟩ d) = 1#1 := by rw [hm]; simp [h]
    rw [← rotated sh hsh A ⟨r, hr⟩ d (by show sh ≤ r; omega), ← rotated sh hsh B ⟨r, hr⟩ d (by show sh ≤ r; omega)]
    constructor
    · show Scalar.select (mask (ix2 ⟨r, hr⟩ d)) _ _ = _
      rw [e]
      rfl
    · show Scalar.select (mask (ix2 ⟨r, hr⟩ d)) _ _ = _
      rw [e]
      rfl
  · intro r hr h
    rw [colOf_at _ _ r hr, colOf_at _ _ r hr, colOf_at _ _ r hr, colOf_at _ _ r hr, hA, hB]
    have e : mask (ix2 ⟨r, hr⟩ d) = 0#1 := by rw [hm]; simp [h]
    constructor
    · show Scalar.select (mask (ix2 ⟨r, hr⟩ d)) _ _ = _
      rw [e]
      rfl
    · show Scalar.select (mask (ix2 ⟨r, hr⟩ d)) _ _ = _
      rw [e]
      rfl

/-- The three doublings of the decays `P` and the inputs `Q`: in every row the run over its group up to that row. -/
theorem tripled (P Q : FVec Ideal S512x512 .f32) (d : Fin 512) (a b : ℕ → EReal)
    (ha : ∀ r, r < 512 → Cert.Rg.Mild (a r)) (hP : ∀ r, r < 512 → colOf P d r = a r) (hQ : ∀ r, r < 512 → colOf Q d r = b r) :
    Cert.Rg.Spans a b 8 (colOf (k0_pay23 P 8#32 k0_pay15 k0_pay16 0#32) d) (colOf (k0_pay24 P Q 8#32 k0_pay15 k0_pay16 0#32) d) := by
  have s1 : Cert.Rg.Spans a b 1 (colOf P d) (colOf Q d) := by
    intro r hr
    rw [hP r hr, hQ r hr]
    exact Cert.Rg.spans_one a b ha r hr
  have s2 := doubled 1 (by omega) P Q (k0_pay18 8#32 k0_pay15 k0_pay16 0#32) mask_one (k0_pay19 P 8#32 k0_pay15 k0_pay16 0#32)
    (select (k0_pay18 8#32 k0_pay15 k0_pay16 0#32) (addf (mulf P (dynamicRotate 0 1#32 none Q rotates_S512x512_d0)) Q) Q)
    (fun _ => rfl) (fun _ => rfl) d a b s1
  have s4 := doubled 2 (by omega) _ _ (k0_pay20 8#32 k0_pay15 k0_pay16 0#32) mask_two (k0_pay21 P 8#32 k0_pay15 k0_pay16 0#32)
    (select (k0_pay20 8#32 k0_pay15 k0_pay16 0#32) (addf (mulf (k0_pay19 P 8#32 k0_pay15 k0_pay16 0#32)
      (dynamicRotate 0 2#32 none (select (k0_pay18 8#32 k0_pay15 k0_pay16 0#32) (addf (mulf P (dynamicRotate 0 1#32 none Q rotates_S512x512_d0)) Q) Q) rotates_S512x512_d0))
      (select (k0_pay18 8#32 k0_pay15 k0_pay16 0#32) (addf (mulf P (dynamicRotate 0 1#32 none Q rotates_S512x512_d0)) Q) Q))
      (select (k0_pay18 8#32 k0_pay15 k0_pay16 0#32) (addf (mulf P (dynamicRotate 0 1#32 none Q rotates_S512x512_d0)) Q) Q))
    (fun _ => rfl) (fun _ => rfl) d a b s2
  refine doubled 4 (by omega) _ _ (k0_pay22 8#32 k0_pay15 k0_pay16 0#32) mask_four _ _ ?_ ?_ d a b s4
  · intro i
    unfold k0_pay23
    idx_vars i
    exact congrFun (shapeCast_id _ _) _
  · intro i
    unfold k0_pay24
    idx_vars i
    exact congrFun (shapeCast_id _ _) _

/-- Rows `8 k …` of an array. -/
theorem rows_at (A : Vec Ideal S512x512 .f32) (g : Fin k0_t1_loop.trips) (i : Fin 8) (d : Fin 512) :
    View.ld A (rows8 g) (ix2 i d) = colOf A d (8 * g.val + i.val) := by
  have hg : g.val < 64 := Nat.lt_of_lt_of_eq g.isLt trips_eq
  have h0 : k0_off1 g (0 : Fin 2) = 8 * g.val := by rw [k0_off1_eq]; rfl
  have h1 : k0_off1 g (1 : Fin 2) = 0 := by rw [k0_off1_eq]; rfl
  rw [colOf_at _ _ _ (by omega)]
  pointwise []
  refine congrArg A (funext fun k => ?_)
  fin_cases k
  · exact Fin.ext (by show k0_off1 g (0 : Fin 2) + i.val = 8 * g.val + i.val; omega)
  · exact Fin.ext (by show k0_off1 g (1 : Fin 2) + d.val = d.val; omega)

/-- A row after a group, from the state carried into it. -/
theorem step_at (h v w : FVec Ideal S8x512 .f32) (i : Fin 8) (d : Fin 512) :
    k0_pay2 (F := Ideal) h v w (ix2 i d) = v (ix2 i d) * h (ix2 i d) + w (ix2 i d) := by
  pointwise [k0_pay2, k0_pay1]

/-- The state carried out of a group. -/
theorem last_at (h v w : FVec Ideal S8x512 .f32) (i : Fin 8) (d : Fin 512) :
    k0_pay3 (F := Ideal) h v w (ix2 i d) = v (ix2 7 d) * h (ix2 7 d) + w (ix2 7 d) := by
  pointwise [k0_pay3, k0_pay1]

/-- The state carried into a group. -/
theorem carried_at (A B : FVec Ideal S512x512 .f32) (h0 : FVec Ideal S8x512 .f32) (d : Fin 512) (α β : ℕ → EReal) (s : ℕ)
    (hS : Cert.Rg.Spans (fun r => α (s + r)) (fun r => β (s + r)) 8 (colOf A d) (colOf B d))
    (hh : ∀ i : Fin 8, h0 (ix2 i d) = Cert.Rg.seq α β s) (k : ℕ) (hk : k ≤ 64) (i : Fin 8) :
    carried (F := Ideal) A B h0 k (ix2 i d) = Cert.Rg.seq α β (s + 8 * k) := by
  induction k generalizing i with
  | zero => exact hh i
  | succ k ih =>
    have hk' : k < k0_t1_loop.trips := by rw [trips_eq]; omega
    have e : carried (F := Ideal) A B h0 (k + 1) = k0_pay3 (carried (F := Ideal) A B h0 k) (View.ld A (rows8 ⟨k, hk'⟩))
        (View.ld B (rows8 ⟨k, hk'⟩)) := carried_succ (F := Ideal) A B h0 ⟨k, hk'⟩
    rw [e, last_at, ih (by omega), rows_at, rows_at]
    refine ((hS (8 * k + 7) (by omega)).2 _).trans ?_
    rw [show min 8 ((8 * k + 7) % 8 + 1) = 8 by omega,
      show s + 8 * k = s + (8 * k + 7) + 1 - 8 by omega, Cert.Rg.run_seq α β s 8 _ (by omega)]
    rfl

/-- What the loop leaves in a row: the state after that row. -/
theorem scanned_at (A B : FVec Ideal S512x512 .f32) (h0 : FVec Ideal S8x512 .f32) (d : Fin 512) (α β : ℕ → EReal) (s : ℕ)
    (hS : Cert.Rg.Spans (fun r => α (s + r)) (fun r => β (s + r)) 8 (colOf A d) (colOf B d))
    (hh : ∀ i : Fin 8, h0 (ix2 i d) = Cert.Rg.seq α β s) (y : Fin 512) :
    scanned (F := Ideal) A B h0 (ix2 y d) = Cert.Rg.seq α β (s + y.val + 1) := by
  have e : scanned (F := Ideal) A B h0 (ix2 y d)
      = k0_pay2 (carried (F := Ideal) A B h0 (y.val / 8)) (View.ld A (rows8 (groupOf (ix2 y d)))) (View.ld B (rows8 (groupOf (ix2 y d))))
        (ix2 ⟨y.val % 8, by omega⟩ d) := rfl
  rw [e, step_at, carried_at A B h0 d α β s hS hh _ (by omega), rows_at, rows_at]
  have hy : 8 * (groupOf (ix2 y d)).val + (⟨y.val % 8, by omega⟩ : Fin 8).val = y.val := by
    show 8 * (y.val / 8) + y.val % 8 = y.val
    omega
  rw [hy]
  refine ((hS y.val y.isLt).2 _).trans ?_
  rw [show min 8 (y.val % 8 + 1) = y.val % 8 + 1 by omega,
    show s + 8 * (y.val / 8) = s + y.val + 1 - (y.val % 8 + 1) by omega, Cert.Rg.run_seq α β s _ _ (by omega)]

/-- The convolution of the block that starts at position `s`. -/
theorem conv_at (G : Args) (b : Fin 2) (s : ℕ) (hs : s + 512 ≤ 8192) (x0 : FVec Ideal S1x512x512 .f32) (s0 : FVec Ideal S8x512 .f32)
    (x2 : FVec Ideal S4x512 .f32) (x3 : FVec Ideal S1x512 .f32)
    (hx : ∀ (y d : Fin 512), x0 (ix3 0 y d) = G.at_ b d (s + y.val))
    (hp : ∀ (i : Fin 8) (d : Fin 512), s0 (ix2 i d) = if 8 ≤ s + i.val then G.at_ b d (s + i.val - 8) else 0)
    (hw : ∀ (j : Fin 4) (d : Fin 512), x2 (ix2 j d) = G.cw j d) (hb : ∀ d : Fin 512, x3 (ix2 0 d) = G.cb d) (y d : Fin 512) :
    cvec (F := Ideal) x0 s0 x2 x3 (ix2 y d) = G.conv b (s + y.val) d := by
  have hk : ∀ (k : ℕ) (hk : k ≤ 3), (if h : 8 - k + y.val < 8 then s0 (ix2 ⟨8 - k + y.val, h⟩ d)
      else x0 (ix3 0 ⟨8 - k + y.val - 8, by omega⟩ d)) = G.back b d k (s + y.val) := by
    intro k hk
    unfold Args.back
    by_cases h : 8 - k + y.val < 8
    · rw [dif_pos h, hp]
      show (if 8 ≤ s + (8 - k + y.val) then G.at_ b d (s + (8 - k + y.val) - 8) else 0) = _
      by_cases h8 : k ≤ s + y.val
      · rw [if_pos (by omega), if_pos h8, show s + (8 - k + y.val) - 8 = s + y.val - k by omega]
      · rw [if_neg (by omega), if_neg h8]
    · rw [dif_neg h, hx]
      show G.at_ b d (s + (8 - k + y.val - 8)) = _
      rw [if_pos (by omega), show s + (8 - k + y.val - 8) = s + y.val - k by omega]
  have h3 := hk 3 (by omega)
  have h2 := hk 2 (by omega)
  have h1 := hk 1 (by omega)
  have h0 : x0 (ix3 0 y d) = G.back b d 0 (s + y.val) := by
    rw [hx]
    unfold Args.back
    rw [if_pos (by omega)]
    rfl
  pointwise [cvec, k0_pay9, k0_pay8]
  rw [h0, hb, hw, hw, hw, hw]
  refine (congrArg (· + _) (congrArg₂ (· + _ * ·) (congrArg₂ (· + _ * ·) (congrArg (_ + _ * ·) h3) h2) h1)).trans ?_
  unfold Args.conv
  rw [mul_comm (G.cw 0 d), mul_comm (G.cw 1 d), mul_comm (G.cw 2 d), mul_comm (G.cw 3 d), add_comm (G.cb d)]
  rw [add_right_comm _ (G.cb d), add_right_comm _ (G.cb d), add_right_comm _ (G.cb d)]

/-- The logarithm of a decay of the block. -/
theorem log_at (G : Args) (b : Fin 2) (s : ℕ) (v : FVec Ideal S512x512 .f32) (x4 : FVec Ideal S512x512 .bf16) (x5 x8 : FVec Ideal S1x512 .f32)
    (hv : ∀ y d : Fin 512, v (ix2 y d) = G.conv b (s + y.val) d)
    (h4 : ∀ k d : Fin 512, (x4 (ix2 k d) : EReal) = if k.val / 64 = d.val / 64
      then G.wa ⟨k.val / 64, by omega⟩ ⟨k.val % 64, by omega⟩ ⟨d.val % 64, by omega⟩ else 0)
    (h5 : ∀ d : Fin 512, x5 (ix2 0 d) = G.ba d) (h8 : ∀ d : Fin 512, x8 (ix2 0 d) = Cert.Rg.softplus (-G.lam d)) (y d : Fin 512) :
    k0_pay12 (F := Ideal) v x4 x5 x8 (ix2 y d) = G.logDecay b (s + y.val) d := by
  pointwise [k0_pay12, k0_pay11]
  unfold Args.logDecay Cert.Rg.gate
  rw [← Cert.Rg.block_sum G.wa (G.conv b (s + y.val)) (fun k => x4 (ix2 k d)) d (fun k => h4 k d), h5, h8]
  simp only [hv]

/-- A decay of the block. -/
theorem decay_at (G : Args) (b : Fin 2) (s : ℕ) (v : FVec Ideal S512x512 .f32) (x4 : FVec Ideal S512x512 .bf16) (x5 x8 : FVec Ideal S1x512 .f32)
    (y d : Fin 512) (h : k0_pay12 (F := Ideal) v x4 x5 x8 (ix2 y d) = G.logDecay b (s + y.val) d) :
    k0_pay13 (F := Ideal) v x4 x5 x8 (ix2 y d) = G.decay b d (s + y.val) := by
  pointwise [k0_pay13]
  rw [h]
  rfl

/-- An input of the block. -/
theorem drive_at (G : Args) (b : Fin 2) (s : ℕ) (v : FVec Ideal S512x512 .f32) (x4 x6 : FVec Ideal S512x512 .bf16) (x5 x7 x8 : FVec Ideal S1x512 .f32)
    (hv : ∀ y d : Fin 512, v (ix2 y d) = G.conv b (s + y.val) d)
    (h6 : ∀ k d : Fin 512, (x6 (ix2 k d) : EReal) = if k.val / 64 = d.val / 64
      then G.wx ⟨k.val / 64, by omega⟩ ⟨k.val % 64, by omega⟩ ⟨d.val % 64, by omega⟩ else 0)
    (h7 : ∀ d : Fin 512, x7 (ix2 0 d) = G.bx d)
    (y d : Fin 512) (h : k0_pay12 (F := Ideal) v x4 x5 x8 (ix2 y d) = G.logDecay b (s + y.val) d) :
    k0_pay14 (F := Ideal) v x4 x5 x6 x7 x8 (ix2 y d) = G.drive b d (s + y.val) := by
  pointwise [k0_pay14, k0_pay11]
  unfold Args.drive Cert.Rg.gate
  rw [h, ← Cert.Rg.block_sum G.wx (G.conv b (s + y.val)) (fun k => x6 (ix2 k d)) d (fun k => h6 k d), h7]
  simp only [hv]

/-- The block's result. -/
theorem out_at (x1 : FVec Ideal S1x512x512 .f32) (V : FVec Ideal S512x512 .f32) (y d : Fin 512) :
    k0_pay5 (F := Ideal) x1 V (ix3 0 y d) = V (ix2 y d) * Cert.Rg.gelu (x1 (ix3 0 y d)) := by
  pointwise [k0_pay5]
  rfl

/-- The last eight rows of a block. -/
theorem tail_at (x0 : FVec Ideal S1x512x512 .f32) (i : Fin 8) (d : Fin 512) :
    k0_pay10 (F := Ideal) x0 (ix2 i d) = x0 (ix3 0 ⟨504 + i.val, by omega⟩ d) := by
  pointwise [k0_pay10, k0_pay8]

end Cert.KernelIdeal.Rg

end
-- ==== Proof.RgBody.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Claim
public import proofs.«01_k».proof.Proof.RgScan

@[expose] public section

set_option maxRecDepth 16384

noncomputable section

namespace Cert.KernelIdeal.Rg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that is not the first of its batch row: what it writes, from what the point before left. -/
theorem run_next (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S512x512 .f32) (harg14 : arg14.IsWhole) (arg15 : Memref sig .tc .vmem S512x512 .f32) (harg15 : arg15.IsWhole)
    (hc : ¬ (Scalar.cmpi .ne (Scalar.extui (Scalar.cmpi .eq (BitVec.ofNat 32 (i 1).val) 0#32) : BitVec 32) 0#32 = 1#1))
    (x0 : Vec F S1x512x512 .f32) (x1 : Vec F S1x512x512 .f32) (x2 : Vec F S4x512 .f32) (x3 : Vec F S1x512 .f32) (x4 : Vec F S512x512 .bf16) (x5 : Vec F S1x512 .f32) (x6 : Vec F S512x512 .bf16) (x7 : Vec F S1x512 .f32) (x8 : Vec F S1x512 .f32) (s0 s1 : Vec F S8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare s0 ∗ owns (c : Thread nD τ) arg13 fullShare s1 ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay5 x1 (scanned (decays (cvec x0 s0 x2 x3) x4 x5 x8) (inputs (cvec x0 s0 x2 x3) x4 x5 x6 x7 x8) s1)) ∗ owns (c : Thread nD τ) arg12 fullShare (k0_pay10 x0) ∗ owns (c : Thread nD τ) arg13 fullShare (k0_pay4 (carried (decays (cvec x0 s0 x2 x3) x4 x5 x8) (inputs (cvec x0 s0 x2 x3) x4 x5 x6 x7 x8) s1 k0_t1_loop.trips)) ∗ (∃ d, owns (c : Thread nD τ) arg14 fullShare d) ∗ (∃ d, owns (c : Thread nD τ) arg15 fullShare d)) -∗ K ⟨⟩))
      ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rglru_eq_skeleton]; unfold cc0_rglru_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%g0, %hg0, HS0⟩, ⟨%g1, %hg1, HS1⟩, ⟨%d2, %g2, -, HS2⟩, ⟨%d3, %g3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg12.eq_unread hg0; obtain rfl := harg13.eq_unread hg1
  sl_exec (disch := first | sl_exact hc)
  sl_step
  have e0 := (View.readAt_full arg2.view (harg2.unread x0) inb_S1x512x512_S1x512x512_0_0_0).trans hf0
  have e1 := (View.readAt_full arg3.view (harg3.unread x1) inb_S1x512x512_S1x512x512_0_0_0).trans hf1
  have e3 := (View.readAt_full arg5.view (harg5.unread x3) inb_S1x512_S1x512_0_0).trans hf3
  have e4 := (View.readAt_full arg6.view (harg6.unread x4) inb_S512x512_S512x512_0_0).trans hf4
  have e5 := (View.readAt_full arg7.view (harg7.unread x5) inb_S1x512_S1x512_0_0).trans hf5
  have e6 := (View.readAt_full arg8.view (harg8.unread x6) inb_S512x512_S512x512_0_0).trans hf6
  have e7 := (View.readAt_full arg9.view (harg9.unread x7) inb_S1x512_S1x512_0_0).trans hf7
  have e8 := (View.readAt_full arg10.view (harg10.unread x8) inb_S1x512_S1x512_0_0).trans hf8
  have r0 := congrArg (fun X => View.ld X (Rect.unit (s := S4x512) ![0, 0] S1x512.size inb_S4x512_S1x512_0_0)) hf2
  have r1 := congrArg (fun X => View.ld X (Rect.unit (s := S4x512) ![1, 0] S1x512.size inb_S4x512_S1x512_1_0)) hf2
  have r2 := congrArg (fun X => View.ld X (Rect.unit (s := S4x512) ![2, 0] S1x512.size inb_S4x512_S1x512_2_0)) hf2
  have r3 := congrArg (fun X => View.ld X (Rect.unit (s := S4x512) ![3, 0] S1x512.size inb_S4x512_S1x512_3_0)) hf2
  have t0 := (View.readAt_full arg12.view (harg12.unread s0) inb_S8x512_S8x512_0_0).trans hg0
  have t1 := (View.readAt_full arg13.view (harg13.unread s1) inb_S8x512_S8x512_0_0).trans hg1
  have hv := cvec_of e0 t0 e3 r0 r1 r2 r3
  have hA := decays_of hv e4 e5 e8
  have hB := inputs_of hv e4 e5 e6 e7 e8
  have hA' := read_written arg14 hA
  have hB' := read_written arg15 hB
  have ho := scan_out arg14 arg15 _ _ _ hA' hB' t1
  have hy := scan_yield arg14 arg15 _ _ _ hA' hB' t1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    exact (View.read_writes_full _ _ _ _ _).trans (congrArg₂ k0_pay5 e1 ho)
  isplitl [HS0]
  · iexists _; isplitr
    swap; · iexact HS0
    ipureintro
    exact (View.read_writes_full _ _ _ _ _).trans (congrArg k0_pay10 e0)
  isplitl [HS1]
  · iexists _; isplitr
    swap; · iexact HS1
    ipureintro
    exact (View.read_writes_full _ _ _ _ _).trans (congrArg k0_pay4 hy)
  isplitl [HS2]
  · iexists _; iexists _; isplitr
    swap; · iexact HS2
    ipureintro; rfl
  iexists _; iexists _; isplitr
  swap; · iexact HS3
  ipureintro; rfl

set_option maxHeartbeats 4000000 in
/-- The body at the first point of a batch row: it resets what is carried. -/
theorem run_first (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S512x512 .f32) (harg14 : arg14.IsWhole) (arg15 : Memref sig .tc .vmem S512x512 .f32) (harg15 : arg15.IsWhole)
    (hc : (Scalar.cmpi .ne (Scalar.extui (Scalar.cmpi .eq (BitVec.ofNat 32 (i 1).val) 0#32) : BitVec 32) 0#32 = 1#1))
    (x0 : Vec F S1x512x512 .f32) (x1 : Vec F S1x512x512 .f32) (x2 : Vec F S4x512 .f32) (x3 : Vec F S1x512 .f32) (x4 : Vec F S512x512 .bf16) (x5 : Vec F S1x512 .f32) (x6 : Vec F S512x512 .bf16) (x7 : Vec F S1x512 .f32) (x8 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay5 x1 (scanned (decays (cvec x0 k0_pay6 x2 x3) x4 x5 x8) (inputs (cvec x0 k0_pay6 x2 x3) x4 x5 x6 x7 x8) k0_pay7)) ∗ owns (c : Thread nD τ) arg12 fullShare (k0_pay10 x0) ∗ owns (c : Thread nD τ) arg13 fullShare (k0_pay4 (carried (decays (cvec x0 k0_pay6 x2 x3) x4 x5 x8) (inputs (cvec x0 k0_pay6 x2 x3) x4 x5 x6 x7 x8) k0_pay7 k0_t1_loop.trips)) ∗ (∃ d, owns (c : Thread nD τ) arg14 fullShare d) ∗ (∃ d, owns (c : Thread nD τ) arg15 fullShare d)) -∗ K ⟨⟩))
      ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rglru_eq_skeleton]; unfold cc0_rglru_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d0, %g0, -, HS0⟩, ⟨%d1, %g1, -, HS1⟩, ⟨%d2, %g2, -, HS2⟩, ⟨%d3, %g3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc)
  sl_step
  have e0 := (View.readAt_full arg2.view (harg2.unread x0) inb_S1x512x512_S1x512x512_0_0_0).trans hf0
  have e1 := (View.readAt_full arg3.view (harg3.unread x1) inb_S1x512x512_S1x512x512_0_0_0).trans hf1
  have e3 := (View.readAt_full arg5.view (harg5.unread x3) inb_S1x512_S1x512_0_0).trans hf3
  have e4 := (View.readAt_full arg6.view (harg6.unread x4) inb_S512x512_S512x512_0_0).trans hf4
  have e5 := (View.readAt_full arg7.view (harg7.unread x5) inb_S1x512_S1x512_0_0).trans hf5
  have e6 := (View.readAt_full arg8.view (harg8.unread x6) inb_S512x512_S512x512_0_0).trans hf6
  have e7 := (View.readAt_full arg9.view (harg9.unread x7) inb_S1x512_S1x512_0_0).trans hf7
  have e8 := (View.readAt_full arg10.view (harg10.unread x8) inb_S1x512_S1x512_0_0).trans hf8
  have r0 := congrArg (fun X => View.ld X (Rect.unit (s := S4x512) ![0, 0] S1x512.size inb_S4x512_S1x512_0_0)) hf2
  have r1 := congrArg (fun X => View.ld X (Rect.unit (s := S4x512) ![1, 0] S1x512.size inb_S4x512_S1x512_1_0)) hf2
  have r2 := congrArg (fun X => View.ld X (Rect.unit (s := S4x512) ![2, 0] S1x512.size inb_S4x512_S1x512_2_0)) hf2
  have r3 := congrArg (fun X => View.ld X (Rect.unit (s := S4x512) ![3, 0] S1x512.size inb_S4x512_S1x512_3_0)) hf2
  have t0 := load_written arg12 (k0_pay6 (F := F))
  have t1 := load_written arg13 (k0_pay7 (F := F))
  have hv := cvec_of e0 t0 e3 r0 r1 r2 r3
  have hA := decays_of hv e4 e5 e8
  have hB := inputs_of hv e4 e5 e6 e7 e8
  have hA' := read_written arg14 hA
  have hB' := read_written arg15 hB
  have ho := scan_out arg14 arg15 _ _ _ hA' hB' t1
  have hy := scan_yield arg14 arg15 _ _ _ hA' hB' t1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    exact (View.read_writes_full _ _ _ _ _).trans (congrArg₂ k0_pay5 e1 ho)
  isplitl [HS0]
  · iexists _; isplitr
    swap; · iexact HS0
    ipureintro
    exact (View.read_writes_full _ _ _ _ _).trans (congrArg k0_pay10 e0)
  isplitl [HS1]
  · iexists _; isplitr
    swap; · iexact HS1
    ipureintro
    exact (View.read_writes_full _ _ _ _ _).trans (congrArg k0_pay4 hy)
  isplitl [HS2]
  · iexists _; iexists _; isplitr
    swap; · iexact HS2
    ipureintro; rfl
  iexists _; iexists _; isplitr
  swap; · iexact HS3
  ipureintro; rfl

end Cert.KernelIdeal.Rg

end
-- ==== Proof.RgFrame.lean ====
module

public import proofs.«01_k».proof.Proof.RgBody

@[expose] public section

set_option maxRecDepth 16384

noncomputable section

namespace Cert.KernelIdeal.Rg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of window 0 at a point. -/
abbrev buf0 (t : Fin cfg0.N) : Memref sig .tc .vmem S1x512x512 .f32 := win0_0.stage (cfg0.slots t 0)
/-- The buffer of window 1 at a point. -/
abbrev buf1 (t : Fin cfg0.N) : Memref sig .tc .vmem S1x512x512 .f32 := win0_1.stage (cfg0.slots t 1)
/-- The buffer of window 2 at a point. -/
abbrev buf2 (t : Fin cfg0.N) : Memref sig .tc .vmem S4x512 .f32 := win0_2.stage (cfg0.slots t 2)
/-- The buffer of window 3 at a point. -/
abbrev buf3 (t : Fin cfg0.N) : Memref sig .tc .vmem S1x512 .f32 := win0_3.stage (cfg0.slots t 3)
/-- The buffer of window 4 at a point. -/
abbrev buf4 (t : Fin cfg0.N) : Memref sig .tc .vmem S512x512 .bf16 := win0_4.stage (cfg0.slots t 4)
/-- The buffer of window 5 at a point. -/
abbrev buf5 (t : Fin cfg0.N) : Memref sig .tc .vmem S1x512 .f32 := win0_5.stage (cfg0.slots t 5)
/-- The buffer of window 6 at a point. -/
abbrev buf6 (t : Fin cfg0.N) : Memref sig .tc .vmem S512x512 .bf16 := win0_6.stage (cfg0.slots t 6)
/-- The buffer of window 7 at a point. -/
abbrev buf7 (t : Fin cfg0.N) : Memref sig .tc .vmem S1x512 .f32 := win0_7.stage (cfg0.slots t 7)
/-- The buffer of window 8 at a point. -/
abbrev buf8 (t : Fin cfg0.N) : Memref sig .tc .vmem S1x512 .f32 := win0_8.stage (cfg0.slots t 8)
/-- The buffer of window 9 at a point. -/
abbrev buf9 (t : Fin cfg0.N) : Memref sig .tc .vmem S1x512x512 .f32 := win0_9.stage (cfg0.slots t 9)
/-- What window 0 brings at a point. -/
abbrev blk0 (c : Dev nD) (t : Fin cfg0.N) : Vec F S1x512x512 .f32 := iblk m c 0 t
/-- What window 1 brings at a point. -/
abbrev blk1 (c : Dev nD) (t : Fin cfg0.N) : Vec F S1x512x512 .f32 := iblk m c 1 t
/-- What window 2 brings at a point. -/
abbrev blk2 (c : Dev nD) (t : Fin cfg0.N) : Vec F S4x512 .f32 := iblk m c 2 t
/-- What window 3 brings at a point. -/
abbrev blk3 (c : Dev nD) (t : Fin cfg0.N) : Vec F S1x512 .f32 := iblk m c 3 t
/-- What window 4 brings at a point. -/
abbrev blk4 (c : Dev nD) (t : Fin cfg0.N) : Vec F S512x512 .bf16 := iblk m c 4 t
/-- What window 5 brings at a point. -/
abbrev blk5 (c : Dev nD) (t : Fin cfg0.N) : Vec F S1x512 .f32 := iblk m c 5 t
/-- What window 6 brings at a point. -/
abbrev blk6 (c : Dev nD) (t : Fin cfg0.N) : Vec F S512x512 .bf16 := iblk m c 6 t
/-- What window 7 brings at a point. -/
abbrev blk7 (c : Dev nD) (t : Fin cfg0.N) : Vec F S1x512 .f32 := iblk m c 7 t
/-- What window 8 brings at a point. -/
abbrev blk8 (c : Dev nD) (t : Fin cfg0.N) : Vec F S1x512 .f32 := iblk m c 8 t
/-- Scratch buffer 0. -/
abbrev scr0 : Memref sig .tc .vmem S8x512 .f32 := Memref.whole cc0_scratch0
/-- Scratch buffer 1. -/
abbrev scr1 : Memref sig .tc .vmem S8x512 .f32 := Memref.whole cc0_scratch1
/-- Scratch buffer 2. -/
abbrev scr2 : Memref sig .tc .vmem S512x512 .f32 := Memref.whole cc0_scratch2
/-- Scratch buffer 3. -/
abbrev scr3 : Memref sig .tc .vmem S512x512 .f32 := Memref.whole cc0_scratch3

/-- What a point makes of the eight rows and the state it is handed: the block it writes, and the rows and the state
    it hands on. -/
def pointOut (c : Dev nD) (t : Fin cfg0.N) (p h : Vec F S8x512 .f32) :
    Vec F S1x512x512 .f32 × Vec F S8x512 .f32 × Vec F S8x512 .f32 :=
  (k0_pay5 (blk1 m c t) (scanned (decays (cvec (blk0 m c t) p (blk2 m c t) (blk3 m c t)) (blk4 m c t) (blk5 m c t) (blk8 m c t))
      (inputs (cvec (blk0 m c t) p (blk2 m c t) (blk3 m c t)) (blk4 m c t) (blk5 m c t) (blk6 m c t) (blk7 m c t) (blk8 m c t)) h),
    k0_pay10 (blk0 m c t),
    k0_pay4 (carried (decays (cvec (blk0 m c t) p (blk2 m c t) (blk3 m c t)) (blk4 m c t) (blk5 m c t) (blk8 m c t))
      (inputs (cvec (blk0 m c t) p (blk2 m c t) (blk3 m c t)) (blk4 m c t) (blk5 m c t) (blk6 m c t) (blk7 m c t) (blk8 m c t)) h
      k0_t1_loop.trips))

/-- What each point leaves, in the grid's order: a point that opens a batch row starts from zeros. -/
def left (c : Dev nD) : (n : ℕ) → n < cfg0.N → Vec F S1x512x512 .f32 × Vec F S8x512 .f32 × Vec F S8x512 .f32
  | 0, hn => pointOut m c ⟨0, hn⟩ k0_pay6 k0_pay7
  | n + 1, hn => if (n + 1) % 16 = 0 then pointOut m c ⟨n + 1, hn⟩ k0_pay6 k0_pay7
      else pointOut m c ⟨n + 1, hn⟩ (left c n (by omega)).2.1 (left c n (by omega)).2.2

/-- A point that opens a batch row. -/
theorem left_first (c : Dev nD) (t : Fin cfg0.N) (h : t.val % 16 = 0) :
    left m c t.val t.isLt = pointOut m c t k0_pay6 k0_pay7 := by
  obtain ⟨n, hn⟩ := t
  cases n with
  | zero => rfl
  | succ n => exact if_pos h

/-- Any other point continues from the point before. -/
theorem left_next (c : Dev nD) (t : Fin cfg0.N) (h : ¬ t.val % 16 = 0) :
    left m c t.val t.isLt = pointOut m c t (left m c (t.val - 1) (by omega)).2.1 (left m c (t.val - 1) (by omega)).2.2 := by
  obtain ⟨n, hn⟩ := t
  cases n with
  | zero => exact absurd (Nat.zero_mod _) h
  | succ n => exact if_neg h

/-- Before a point: at the grid's start every scratch buffer at anything, afterwards the two carried ones at what the
    point before left. -/
def carryInv (c : Dev nD) : (n : ℕ) → n ≤ cfg0.N → sProp 𝕄
  | 0, _ => Pipeline.ΦA spec0 c
  | n + 1, hn => iprop(iprop(owns (c : Thread nD τ) scr0 fullShare (left m c n hn).2.1
      ∗ owns (c : Thread nD τ) scr1 fullShare (left m c n hn).2.2
      ∗ (∃ d, owns (c : Thread nD τ) scr2 fullShare d) ∗ (∃ d, owns (c : Thread nD τ) scr3 fullShare d)) ∗ (∃ r, prngReg c r))

/-- The invariant at the grid's start, its scratch buffers owned at anything. -/
theorem scratch_any (c : Dev nD) :
    (Pipeline.ΦA spec0 c : sProp 𝕄)
      = iprop(iprop((∃ d, owns (c : Thread nD τ) scr0 fullShare d) ∗ (∃ d, owns (c : Thread nD τ) scr1 fullShare d)
        ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- After point `n`. -/
theorem carryInv_succ (c : Dev nD) (n : ℕ) (hn : n < cfg0.N) :
    carryInv m c (n + 1) hn = iprop(iprop(owns (c : Thread nD τ) scr0 fullShare (left m c n hn).2.1
      ∗ owns (c : Thread nD τ) scr1 fullShare (left m c n hn).2.2
      ∗ (∃ d, owns (c : Thread nD τ) scr2 fullShare d) ∗ (∃ d, owns (c : Thread nD τ) scr3 fullShare d)) ∗ (∃ r, prngReg c r)) := rfl

/-- Before a point that is not the first. -/
theorem carryInv_pos (c : Dev nD) (n : ℕ) (h : n ≤ cfg0.N) (hz : n ≠ 0) :
    carryInv m c n h = iprop(iprop(owns (c : Thread nD τ) scr0 fullShare (left m c (n - 1) (by omega)).2.1
      ∗ owns (c : Thread nD τ) scr1 fullShare (left m c (n - 1) (by omega)).2.2
      ∗ (∃ d, owns (c : Thread nD τ) scr2 fullShare d) ∗ (∃ d, owns (c : Thread nD τ) scr3 fullShare d)) ∗ (∃ r, prngReg c r)) := by
  cases n with
  | zero => exact absurd rfl hz
  | succ n => rfl

/-- Forgetting what the carried buffers hold. -/
theorem carryInv_any (c : Dev nD) (n : ℕ) (h : n ≤ cfg0.N) : carryInv m c n h ⊢ Pipeline.ΦA spec0 c := by
  cases n with
  | zero => exact Idealize.SL.BI.Entails.refl _
  | succ n =>
    rw [carryInv_succ, scratch_any]
    iintro ⟨⟨HS0, HS1, HS2, HS3⟩, Hg⟩
    isplitr [Hg]
    · isplitl [HS0]; · iexists _; iexact HS0
      isplitl [HS1]; · iexists _; iexact HS1
      isplitl [HS2]; · iexact HS2
      iexact HS3
    iexact Hg

/-- Weakening the first conjunct of a premise. -/
theorem weaken_left {A B X Y : sProp 𝕄} (h : A ⊢ B) (hk : iprop(B ∗ X) ⊢ Y) : iprop(A ∗ X) ⊢ Y :=
  Idealize.SL.BI.Entails.trans (Idealize.SL.BI.sep_mono_l h) hk

/-- The proof data of the pipeline: every input left in place, the output at `left`, the carried scratch at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (left m c t.val t.isLt).1
  Φ t := carryInv m c t.val (Nat.le_of_lt_succ t.isLt)
  q _ := fullShare
  owed _ := 0

/-- The arrays are those the region finds. -/
theorem dats_arr (c : Dev nD) (w : Fin cfg0.W) : (dats m 0 c).A w = V m c (Pipeline.arrRef spec0 w) := by
  dsimp only [dats]

/-- The invariant at a point's start. -/
theorem inv_start (c : Dev nD) (t : Fin cfg0.N) :
    (dats m 0 c).Φ t.castSucc = carryInv m c t.val (Nat.le_of_lt t.isLt) := by
  dsimp only [dats]; exact Pipeline.Dat.Φ_castSucc (carryInv m c) t

/-- Input 0 is left in place. -/
theorem kept0 (c : Dev nD) (t : Fin cfg0.N) : (dats m 0 c).after 0 t = blk0 m c t := by dsimp only [dats]
/-- Input 0 is found at its block. -/
theorem found0 (c : Dev nD) (t : Fin cfg0.N) (d) : (dats m 0 c).before 0 t d = blk0 m c t :=
  before0_0_of m (dats m 0 c) (dats_arr m c 0) (kept0 m c) t d
/-- Input 0 after the body, as ownership. -/
theorem leaves0 (c : Dev nD) (t : Fin cfg0.N) :
    (dats m 0 c).leavesExact 0 t = owns (c : Thread nD τ) (buf0 t) fullShare (blk0 m c t) := by
  rw [show (dats m 0 c).leavesExact 0 t = owns (c : Thread nD τ) (buf0 t) fullShare ((dats m 0 c).after 0 t) from by
    unfold Dat.leavesExact; rw [show cfg0.idle 0 (grid0.coords t) = false from rfl], kept0]

/-- Input 1 is left in place. -/
theorem kept1 (c : Dev nD) (t : Fin cfg0.N) : (dats m 0 c).after 1 t = blk1 m c t := by dsimp only [dats]
/-- Input 1 is found at its block. -/
theorem found1 (c : Dev nD) (t : Fin cfg0.N) (d) : (dats m 0 c).before 1 t d = blk1 m c t :=
  before0_1_of m (dats m 0 c) (dats_arr m c 1) (kept1 m c) t d
/-- Input 1 after the body, as ownership. -/
theorem leaves1 (c : Dev nD) (t : Fin cfg0.N) :
    (dats m 0 c).leavesExact 1 t = owns (c : Thread nD τ) (buf1 t) fullShare (blk1 m c t) := by
  rw [show (dats m 0 c).leavesExact 1 t = owns (c : Thread nD τ) (buf1 t) fullShare ((dats m 0 c).after 1 t) from by
    unfold Dat.leavesExact; rw [show cfg0.idle 1 (grid0.coords t) = false from rfl], kept1]

/-- Input 2 is left in place. -/
theorem kept2 (c : Dev nD) (t : Fin cfg0.N) : (dats m 0 c).after 2 t = blk2 m c t := by dsimp only [dats]
/-- Input 2 is found at its block. -/
theorem found2 (c : Dev nD) (t : Fin cfg0.N) (d) : (dats m 0 c).before 2 t d = blk2 m c t :=
  before0_2_of m (dats m 0 c) (dats_arr m c 2) (kept2 m c) t d
/-- Input 2 after the body, as ownership. -/
theorem leaves2 (c : Dev nD) (t : Fin cfg0.N) :
    (dats m 0 c).leavesExact 2 t = owns (c : Thread nD τ) (buf2 t) fullShare (blk2 m c t) := by
  rw [show (dats m 0 c).leavesExact 2 t = owns (c : Thread nD τ) (buf2 t) fullShare ((dats m 0 c).after 2 t) from by
    unfold Dat.leavesExact; rw [show cfg0.idle 2 (grid0.coords t) = false from rfl], kept2]

/-- Input 3 is left in place. -/
theorem kept3 (c : Dev nD) (t : Fin cfg0.N) : (dats m 0 c).after 3 t = blk3 m c t := by dsimp only [dats]
/-- Input 3 is found at its block. -/
theorem found3 (c : Dev nD) (t : Fin cfg0.N) (d) : (dats m 0 c).before 3 t d = blk3 m c t :=
  before0_3_of m (dats m 0 c) (dats_arr m c 3) (kept3 m c) t d
/-- Input 3 after the body, as ownership. -/
theorem leaves3 (c : Dev nD) (t : Fin cfg0.N) :
    (dats m 0 c).leavesExact 3 t = owns (c : Thread nD τ) (buf3 t) fullShare (blk3 m c t) := by
  rw [show (dats m 0 c).leavesExact 3 t = owns (c : Thread nD τ) (buf3 t) fullShare ((dats m 0 c).after 3 t) from by
    unfold Dat.leavesExact; rw [show cfg0.idle 3 (grid0.coords t) = false from rfl], kept3]

/-- Input 4 is left in place. -/
theorem kept4 (c : Dev nD) (t : Fin cfg0.N) : (dats m 0 c).after 4 t = blk4 m c t := by dsimp only [dats]
/-- Input 4 is found at its block. -/
theorem found4 (c : Dev nD) (t : Fin cfg0.N) (d) : (dats m 0 c).before 4 t d = blk4 m c t :=
  before0_4_of m (dats m 0 c) (dats_arr m c 4) (kept4 m c) t d
/-- Input 4 after the body, as ownership. -/
theorem leaves4 (c : Dev nD) (t : Fin cfg0.N) :
    (dats m 0 c).leavesExact 4 t = owns (c : Thread nD τ) (buf4 t) fullShare (blk4 m c t) := by
  rw [show (dats m 0 c).leavesExact 4 t = owns (c : Thread nD τ) (buf4 t) fullShare ((dats m 0 c).after 4 t) from by
    unfold Dat.leavesExact; rw [show cfg0.idle 4 (grid0.coords t) = false from rfl], kept4]

/-- Input 5 is left in place. -/
theorem kept5 (c : Dev nD) (t : Fin cfg0.N) : (dats m 0 c).after 5 t = blk5 m c t := by dsimp only [dats]
/-- Input 5 is found at its block. -/
theorem found5 (c : Dev nD) (t : Fin cfg0.N) (d) : (dats m 0 c).before 5 t d = blk5 m c t :=
  before0_5_of m (dats m 0 c) (dats_arr m c 5) (kept5 m c) t d
/-- Input 5 after the body, as ownership. -/
theorem leaves5 (c : Dev nD) (t : Fin cfg0.N) :
    (dats m 0 c).leavesExact 5 t = owns (c : Thread nD τ) (buf5 t) fullShare (blk5 m c t) := by
  rw [show (dats m 0 c).leavesExact 5 t = owns (c : Thread nD τ) (buf5 t) fullShare ((dats m 0 c).after 5 t) from by
    unfold Dat.leavesExact; rw [show cfg0.idle 5 (grid0.coords t) = false from rfl], kept5]

/-- Input 6 is left in place. -/
theorem kept6 (c : Dev nD) (t : Fin cfg0.N) : (dats m 0 c).after 6 t = blk6 m c t := by dsimp only [dats]
/-- Input 6 is found at its block. -/
theorem found6 (c : Dev nD) (t : Fin cfg0.N) (d) : (dats m 0 c).before 6 t d = blk6 m c t :=
  before0_6_of m (dats m 0 c) (dats_arr m c 6) (kept6 m c) t d
/-- Input 6 after the body, as ownership. -/
theorem leaves6 (c : Dev nD) (t : Fin cfg0.N) :
    (dats m 0 c).leavesExact 6 t = owns (c : Thread nD τ) (buf6 t) fullShare (blk6 m c t) := by
  rw [show (dats m 0 c).leavesExact 6 t = owns (c : Thread nD τ) (buf6 t) fullShare ((dats m 0 c).after 6 t) from by
    unfold Dat.leavesExact; rw [show cfg0.idle 6 (grid0.coords t) = false from rfl], kept6]

/-- Input 7 is left in place. -/
theorem kept7 (c : Dev nD) (t : Fin cfg0.N) : (dats m 0 c).after 7 t = blk7 m c t := by dsimp only [dats]
/-- Input 7 is found at its block. -/
theorem found7 (c : Dev nD) (t : Fin cfg0.N) (d) : (dats m 0 c).before 7 t d = blk7 m c t :=
  before0_7_of m (dats m 0 c) (dats_arr m c 7) (kept7 m c) t d
/-- Input 7 after the body, as ownership. -/
theorem leaves7 (c : Dev nD) (t : Fin cfg0.N) :
    (dats m 0 c).leavesExact 7 t = owns (c : Thread nD τ) (buf7 t) fullShare (blk7 m c t) := by
  rw [show (dats m 0 c).leavesExact 7 t = owns (c : Thread nD τ) (buf7 t) fullShare ((dats m 0 c).after 7 t) from by
    unfold Dat.leavesExact; rw [show cfg0.idle 7 (grid0.coords t) = false from rfl], kept7]

/-- Input 8 is left in place. -/
theorem kept8 (c : Dev nD) (t : Fin cfg0.N) : (dats m 0 c).after 8 t = blk8 m c t := by dsimp only [dats]
/-- Input 8 is found at its block. -/
theorem found8 (c : Dev nD) (t : Fin cfg0.N) (d) : (dats m 0 c).before 8 t d = blk8 m c t :=
  before0_8_of m (dats m 0 c) (dats_arr m c 8) (kept8 m c) t d
/-- Input 8 after the body, as ownership. -/
theorem leaves8 (c : Dev nD) (t : Fin cfg0.N) :
    (dats m 0 c).leavesExact 8 t = owns (c : Thread nD τ) (buf8 t) fullShare (blk8 m c t) := by
  rw [show (dats m 0 c).leavesExact 8 t = owns (c : Thread nD τ) (buf8 t) fullShare ((dats m 0 c).after 8 t) from by
    unfold Dat.leavesExact; rw [show cfg0.idle 8 (grid0.coords t) = false from rfl], kept8]

/-- The output after the body, as ownership. -/
theorem leaves9 (c : Dev nD) (t : Fin cfg0.N) :
    (dats m 0 c).leavesExact 9 t = owns (c : Thread nD τ) (buf9 t) fullShare (left m c t.val t.isLt).1 := by
  rw [show (dats m 0 c).leavesExact 9 t = owns (c : Thread nD τ) (buf9 t) fullShare ((dats m 0 c).after 9 t) from by
    unfold Dat.leavesExact; rw [show cfg0.idle 9 (grid0.coords t) = false from rfl]]
  dsimp only [dats]

/-- The kernel's condition holds exactly at the points that open a batch row. -/
theorem opens_iff (t : Fin cfg0.N) :
    (Scalar.cmpi .ne (Scalar.extui (Scalar.cmpi .eq (BitVec.ofNat 32 (grid0.coords t 1).val) 0#32) : BitVec 32) 0#32 = 1#1)
      ↔ t.val % 16 = 0 := by
  have ht : t.val < 32 := Nat.lt_of_lt_of_eq t.isLt N_0
  have e1 : (grid0.coords t 1).val = t.val / 1 % 16 := Pipeline.Grid.coords_val t 1 (by decide) rfl
  simp only [e1]
  word_cmp

/-- What the body is called with at a point. -/
def callPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d)))

/-- What the body returns at a point. -/
def callPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point. -/
theorem call_ok (c : Dev nD) (t : Fin cfg0.N) :
    callPre m c t ⊢ wp frame (wpE (defs₀ (F := F)) Variants.none c none) Set.univ (bodyAt0 t) (fun _ => callPost m c t) := by
  unfold callPre callPost bodyAt0
  simp only [found0, found1, found2, found3, found4, found5, found6, found7, found8]
  rw [leaves0, leaves1, leaves2, leaves3, leaves4, leaves5, leaves6, leaves7, leaves8, leaves9]
  rw [show (dats m 0 c).owesAt () t.succ = (dats m 0 c).owesAt () t.castSucc from rfl]
  rw [show (dats m 0 c).Φ t.succ = carryInv m c (t.val + 1) t.isLt from rfl, carryInv_succ, inv_start]
  by_cases h0 : t.val % 16 = 0
  · rw [left_first m c t h0]
    refine weaken_left (carryInv_any m c _ _) ?_
    rw [scratch_any]
    unfold pointOut; dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ _ _ _ _ ((opens_iff t).mpr h0) (blk0 m c t) (blk1 m c t) (blk2 m c t) (blk3 m c t) (blk4 m c t) (blk5 m c t) (blk6 m c t) (blk7 m c t) (blk8 m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [carryInv_pos m c _ _ (fun hz => h0 (by rw [hz])), left_next m c t h0]
    unfold pointOut; dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_next c (grid0.coords t) _ _ _ _ _ _ _ _ _ _ _ _ _ _ _ _ _ _ _ _ _ _ _ _ _ _ _ _ (fun h => h0 ((opens_iff t).mp h)) (blk0 m c t) (blk1 m c t) (blk2 m c t) (blk3 m c t) (blk4 m c t) (blk5 m c t) (blk6 m c t) (blk7 m c t) (blk8 m c t) (left m c (t.val - 1) (by omega)).2.1 (left m c (t.val - 1) (by omega)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point's buffers is the body. -/
theorem row_eq (t : Fin cfg0.N) :
    defs₀ (F := F) .tc cfg0.body (cfg0.bodyArgs t (cfg0.slots t)) = bodyAt0 t := by
  unfold defs₀; rw [Defs.onTc_tc]

/-- The pipeline's obligation on the body. -/
theorem calls_ok (c : Dev nD) : BodyObligation (dats (F := F) m 0 c) (defs₀ (F := F)) Variants.none () Set.univ := fun t => by
  rw [bigSep_W0, bigSep_W0, row_eq]
  exact triple_restated (call_ok m c t) rfl .rfl fun _ => .rfl

/-- What the launch hands the region is the invariant before the first point. -/
theorem inv_in (c : Dev nD) : Pipeline.ΦA spec0 c ⊢ (dats m 0 c).Φ 0 := by
  rw [show (dats m 0 c).Φ 0 = carryInv m c 0 (Nat.zero_le _) from rfl]
  exact Idealize.SL.BI.Entails.refl _

/-- After the last point the invariant gives the scratch back. -/
theorem inv_out (c : Dev nD) : (dats m 0 c).Φ (Fin.last cfg0.N) ⊢ Pipeline.ΦA spec0 c := by
  rw [show (dats m 0 c).Φ (Fin.last cfg0.N) = carryInv m c (Fin.last cfg0.N).val (Nat.le_of_lt_succ (Fin.last cfg0.N).isLt) from rfl]
  exact carryInv_any m c _ _

set_option backward.isDefEq.respectTransparency.types false in
/-- The launch, with every semaphore counter at zero at every final state. -/
theorem launch_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (calls_ok m c).loose) (hshare := fun c => (dats m 0 c).share_full fun _ => rfl)
    (howed := fun _ _ => rfl) (V := V m) (hmain := hmain m Variants.none) (hA := dats_arr m) (hin := inv_in m) (hout := inv_out m)

/-- The launch: every array ends at what the proof data says. -/
theorem launch_ok : θ_run defs (onTc (τ := τ) (main (F := F))) (s₀ m ρ) (Pipeline.FramePost cfgs (dats m) 0 (V m)) :=
  (θ_run defs _ _).mono (fun _ h => h.1) (launch_quiet m ρ)

/-- The frame claim: the arguments end as they began and every semaphore counter is zero. -/
theorem frame_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (dats_arr m) (launch_ok m ρ))
    ((θ_run defs _ _).mono (fun _ h => h.2) (launch_quiet m ρ))

end Cert.KernelIdeal.Rg

end
-- ==== Proof.RgRef.lean ====
module

public import proofs.«01_k».proof.Proof.Gen.ReferenceIdeal.Run
public import proofs.«01_k».proof.Proof.Gen.ReferenceIdeal.Step

@[expose] public section

set_option maxRecDepth 16384

noncomputable section

namespace Cert.ReferenceIdeal.Rg

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

variable (m : (ℓ : Loc nD τ sig) → Buf (Elt F) ℓ) (ρ : Dev nD → PrngReg)

/-- The decay of every position, as the reference computes it before its scan, time first. -/
abbrev decay (c : Dev nD) : FVec F S8192x2x512 .f32 :=
  Step.A_main_v81 (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))

/-- The input of every position, as the reference computes it before its scan, time first. -/
abbrev drive (c : Dev nD) : FVec F S8192x2x512 .f32 :=
  Step.A_main_v82 (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))

/-- Row `j` of an array with time first. -/
def rowOf (A : FVec F S8192x2x512 .f32) (j : ℕ) : FVec F S2x512 .f32 :=
  shapeCast S2x512 (Host.dynamicSlice S1x2x512 A
    (fun k => (((![constantI S_ 32 (BitVec.ofNat 32 j), constantI S_ 32 0#32, constantI S_ 32 0#32] :
      Fin 3 → (⟨S_, .i32⟩ : BufTy).Contents (Elt F))) k (Shape.Idx.first h_S_)).toInt) sliceFits_S8192x2x512_S1x2x512)
    shapeCasts_S1x2x512_S2x512

/-- The states stored, with the state `h` put at row `j`. -/
def putRow (O : FVec F S8192x2x512 .f32) (h : FVec F S2x512 .f32) (j : ℕ) : FVec F S8192x2x512 .f32 :=
  Host.dynamicUpdateSlice O (broadcastInDim S1x2x512 ![1, 2] bcast_S2x512_S1x2x512_1_2 h)
    (fun k => (((![constantI S_ 32 (BitVec.ofNat 32 j), constantI S_ 32 0#32, constantI S_ 32 0#32] :
      Fin 3 → (⟨S_, .i32⟩ : BufTy).Contents (Elt F))) k (Shape.Idx.first h_S_)).toInt) updateFits_S8192x2x512_S1x2x512

/-- The state after `j` positions of the scan. -/
def stateAt (A B : FVec F S8192x2x512 .f32) : ℕ → FVec F S2x512 .f32
  | 0 => Step.K_main_v80
  | j + 1 => addf (mulf (rowOf A j) (stateAt A B j)) (rowOf B j)

/-- The states stored after `j` positions of the scan. -/
def storedAt (A B : FVec F S8192x2x512 .f32) : ℕ → FVec F S8192x2x512 .f32
  | 0 => Step.K_main_v83
  | j + 1 => putRow (storedAt A B j) (stateAt A B (j + 1)) j

/-- What the buffers of the scan hold before its trip `j`. -/
structure Tracks (A B : FVec F S8192x2x512 .f32) (W : Valuation τ sig (Elt F)) (j : ℕ) : Prop where
  decays : W (Proc.devRef .tc main_v84_0) = A
  drives : W (Proc.devRef .tc main_v84_1) = B
  count : W (Proc.devRef .tc main_v84_2) = constantI S_ 32 (BitVec.ofNat 32 j)
  state : W (Proc.devRef .tc main_v84_3) = stateAt A B j
  stored : W (Proc.devRef .tc main_v84_4) = storedAt A B j

/-- The state a trip makes. -/
theorem next_state {A B : FVec F S8192x2x512 .f32} {W : Valuation τ sig (Elt F)} {j : ℕ} (h : Tracks A B W j) :
    res_main_while0b_v103 W = stateAt A B (j + 1) := by
  unfold res_main_while0b_v103
  rw [h.decays, h.drives, h.count, h.state]
  rfl

/-- One trip of the scan goes on to the next number. -/
theorem tracks_step {A B : FVec F S8192x2x512 .f32} {W : Valuation τ sig (Elt F)} {j : ℕ} (h : Tracks A B W j) :
    Tracks A B (STEP W) (j + 1) where
  decays := (STEP_main_v84_0 W).trans h.decays
  drives := (STEP_main_v84_1 W).trans h.drives
  count := by
    refine (STEP_main_v84_2 W).trans ?_
    unfold step_main_v84_2
    rw [h.count]
    funext i
    exact (BitVec.ofNat_add j 1).symm
  state := (STEP_main_v84_3 W).trans (next_state h)
  stored := by
    refine (STEP_main_v84_4 W).trans ?_
    unfold step_main_v84_4
    rw [next_state h, h.count, h.stored]
    rfl

set_option maxRecDepth 65536 in
set_option maxHeartbeats 1000000 in
/-- What the operations before the scan leave. -/
theorem tracks_entry (c : Dev nD) : Tracks (decay m c) (drive m c) (entryContents preI m c) 0 := by
  constructor <;> (simp only [entryContents, afterL_cons, afterL_nil]; after_reads_simp) <;> rfl

/-- The scan's buffers before trip `j`. -/
theorem tracks_iter (c : Dev nD) : ∀ j, Tracks (decay m c) (drive m c) (STEP^[j] (entryContents preI m c)) j
  | 0 => tracks_entry m c
  | j + 1 => by
    rw [Function.iterate_succ_apply']
    exact tracks_step (tracks_iter c j)

/-- The result of the stored states `O` and the gate's argument `y`. -/
abbrev gated (O : FVec F S8192x2x512 .f32) (y : FVec F S2x8192x512 .f32) : FVec F S2x8192x512 .f32 :=
  mulf (transpose S2x8192x512 [1, 0, 2] O transposes_S8192x2x512_S2x8192x512_1_0_2)
    (mulf y (mulf (broadcastInDim S2x8192x512 ![] bcast_S_S2x8192x512 (constant S_ .f32 0x3F000000#32))
      (addf (broadcastInDim S2x8192x512 ![] bcast_S_S2x8192x512 (constant S_ .f32 0x3F800000#32))
        (Host.tanh (mulf (broadcastInDim S2x8192x512 ![] bcast_S_S2x8192x512 (constant S_ .f32 0x3F4C422A#32))
          (addf y (mulf (broadcastInDim S2x8192x512 ![] bcast_S_S2x8192x512 (constant S_ .f32 0x3D372713#32))
            (mulf (mulf y y) y))))))))

/-- What the operations after the scan make of the stored states. -/
theorem result_of (c : Dev nD) : out_main_v99 (STEP^[8192] (entryContents preI m c))
    = gated (storedAt (decay m c) (drive m c) 8192) (m ((c.tc : Thread nD τ).loc main_arg1)) := by
  unfold out_main_v99
  rw [(tracks_iter m c 8192).stored, iter_main_arg1 m c 8192]

/-- The frame of the reference: it ends, changes no argument and leaves every counter at zero. -/
theorem frame_ok : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0 :=
  (θ_run defs _ _).mono (fun r h => ⟨fun c => (h c).2, Idealize.ShloMosaic.sem_eq_zero_of_no_sems (by decide) r.2⟩)
    (Cert.ReferenceIdeal.Value.run m ρ)

end Cert.ReferenceIdeal.Rg

end
-- ==== Proof.RgRefValue.lean ====
module

public import proofs.«01_k».proof.Proof.RgRef
public import proofs.«01_k».proof.Proof.RgSpec
public import Idealize.ShloMosaic.Lib.Pipeline.ValueKit
public import Idealize.ShloMosaic.Lib.Pointwise
public import Idealize.ShloMosaic.Lib.WordCmp

/-! # The reference of the recurrent branch, entry by entry

The arrays the reference computes before its scan, the states its scan goes through, and its result, read at an index
and named by the formulas of the branch. -/

@[expose] public section

set_option maxRecDepth 16384

noncomputable section

namespace Cert.ReferenceIdeal.Rg

open Idealize.ShloMosaic Idealize.ShloMosaic.TcCoe Idealize.SL.Sem
open Cert.ReferenceIdeal Cert.ReferenceIdeal.Gen
open Cert.Rg (Args)

/-- The arguments of the branch, of the arrays that hold them. -/
def argsOf (x0 : FVec Ideal S2x8192x512 .f32) (x2 : FVec Ideal S1x4x512 .f32) (x3 : FVec Ideal S1x512 .f32)
    (x4 : FVec Ideal S1x8x64x64 .f32) (x5 : FVec Ideal S1x512 .f32) (x6 : FVec Ideal S1x8x64x64 .f32)
    (x7 x8 : FVec Ideal S1x512 .f32) : Args where
  x := fun b t d => x0 (ix3 b t d)
  cw := fun j d => x2 (ix3 0 j d)
  cb := fun d => x3 (ix2 0 d)
  wa := fun n e l => x4 (ix4 0 n e l)
  ba := fun d => x5 (ix2 0 d)
  wx := fun n e l => x6 (ix4 0 n e l)
  bx := fun d => x7 (ix2 0 d)
  lam := fun d => x8 (ix2 0 d)

variable (b : Fin 2) (t : Fin 8192) (d : Fin 512) (x0 : FVec Ideal S2x8192x512 .f32) (x2 : FVec Ideal S1x4x512 .f32)
  (x3 : FVec Ideal S1x512 .f32) (x4 : FVec Ideal S1x8x64x64 .f32) (x5 : FVec Ideal S1x512 .f32)
  (x6 : FVec Ideal S1x8x64x64 .f32) (x7 x8 : FVec Ideal S1x512 .f32)

/-- A shifted row of the padded input. -/
theorem shifted (k : ℕ) (z : ℕ) (hz : z = t.val - k)
    (hk : ∀ h : 3 ≤ (3 - k) + t.val ∧ (3 - k) + t.val - 3 < 8192, (3 - k) + t.val - 3 = z) (hk3 : k ≤ 3)
    (P : Prop) [Decidable P] (hP : P ↔ k ≤ t.val) (v : P → EReal) (hv : ∀ h hz', v h = x0 (ix3 b ⟨z, hz'⟩ d)) (w : EReal) (hw : w = 0) :
    (if h : P then v h else w) = (argsOf x0 x2 x3 x4 x5 x6 x7 x8).back b d k t.val := by
  subst hz hw
  unfold Args.back Args.at_
  by_cases h : k ≤ t.val
  · rw [dif_pos (hP.mpr h), if_pos h, dif_pos (by omega)]
    exact hv _ _
  · rw [dif_neg (fun h' => h (hP.mp h')), if_neg h]

/-- The integer zero read as a number. -/
theorem zero_word : FloatOps.sitofp (F := Ideal) .f32 (0#32 : BitVec 32) = (0 : EReal) := by
  show ((BitVec.toInt 0#32 : ℝ) : EReal) = 0
  simp

/-- The convolution. -/
theorem conv_ref : Step.A_main_v34 (F := Ideal) x0 x2 x3 x4 x5 x6 x7 x8 (ix3 b t d)
    = (argsOf x0 x2 x3 x4 x5 x6 x7 x8).conv b t d := by
  open Step in
  pointwise [A_main_v0, A_main_v1, A_main_v2, A_main_v3, A_main_v4, A_main_v5, A_main_v6, A_main_v7, A_main_v9, A_main_v10,
    A_main_v11, A_main_v12, A_main_v13, A_main_v14, A_main_v15, A_main_v16, A_main_v17, A_main_v18, A_main_v19, A_main_v20,
    A_main_v21, A_main_v22, A_main_v23, A_main_v24, A_main_v25, A_main_v26, A_main_v27, A_main_v28, A_main_v29, A_main_v30,
    A_main_v31, A_main_v32, A_main_v33, A_main_v34, K_main_c, K_main_call0_v0, K_main_cst, K_main_v8]
  unfold Args.conv
  rw [shifted b t d x0 x2 x3 x4 x5 x6 x7 x8 3 _ rfl (by omega) (by omega) _ (by omega) _ (fun _ _ => rfl) _ zero_word]
  rw [shifted b t d x0 x2 x3 x4 x5 x6 x7 x8 2 _ rfl (by omega) (by omega) _ (by omega) _
    (fun _ _ => congrArg (fun q => x0 (ix3 b q d)) (Fin.ext (by show 1 + t.val - 3 = t.val - 2; omega))) _ zero_word]
  rw [shifted b t d x0 x2 x3 x4 x5 x6 x7 x8 1 _ rfl (by omega) (by omega) _ (by omega) _
    (fun _ _ => congrArg (fun q => x0 (ix3 b q d)) (Fin.ext (by show 2 + t.val - 3 = t.val - 1; omega))) _ zero_word]
  have e0 : (argsOf x0 x2 x3 x4 x5 x6 x7 x8).back b d 0 t.val = x0 (ix3 b t d) := by
    unfold Args.back Args.at_
    rw [if_pos (Nat.zero_le _), dif_pos (show t.val - 0 < 8192 by omega)]
    rfl
  rw [e0]
  rfl

/-- The linear form of the recurrence gate. -/
theorem gate_a_ref : Step.A_main_v49 (F := Ideal) x0 x2 x3 x4 x5 x6 x7 x8 (ix3 b t d)
    = Cert.Rg.gate (argsOf x0 x2 x3 x4 x5 x6 x7 x8).wa (argsOf x0 x2 x3 x4 x5 x6 x7 x8).ba ((argsOf x0 x2 x3 x4 x5 x6 x7 x8).conv b t) d := by
  open Step in
  pointwise [A_main_v49, A_main_v47, A_main_v45, A_main_v44, K_main_cst_0, K_main_cst_1, K_main_v46, K_main_v48,
    A_main_v43, A_main_v42, A_main_v41, A_main_v40, A_main_v39, A_main_v38, A_main_v37, A_main_v36, A_main_v35]
  simp only [conv_ref]
  rfl

/-- The linear form of the input gate. -/
theorem gate_x_ref : Step.A_main_v63 (F := Ideal) x0 x2 x3 x4 x5 x6 x7 x8 (ix3 b t d)
    = Cert.Rg.gate (argsOf x0 x2 x3 x4 x5 x6 x7 x8).wx (argsOf x0 x2 x3 x4 x5 x6 x7 x8).bx ((argsOf x0 x2 x3 x4 x5 x6 x7 x8).conv b t) d := by
  open Step in
  pointwise [A_main_v63, A_main_v61, A_main_v59, A_main_v58, K_main_cst_2, K_main_cst_3, K_main_v60, K_main_v62,
    A_main_v57, A_main_v56, A_main_v55, A_main_v54, A_main_v53, A_main_v52, A_main_v51, A_main_v50, A_main_v35]
  simp only [conv_ref]
  rfl

/-- The logarithm of the decay. -/
theorem log_ref : Step.A_main_v71 (F := Ideal) x0 x2 x3 x4 x5 x6 x7 x8 (ix3 b t d)
    = (argsOf x0 x2 x3 x4 x5 x6 x7 x8).logDecay b t d := by
  open Step in
  pointwise [A_main_v71, A_main_v70, A_main_v69, A_main_v68, A_main_v67, A_main_v66, A_main_v65, K_main_v64, K_main_cst_4,
    A_main_call1_v1, A_main_call1_v3, A_main_call1_v4, A_main_call1_v6, A_main_call1_v7, A_main_call1_v8, A_main_call1_v9,
    A_main_call1_v10, A_main_call1_v11, K_main_call1_cst, K_main_call1_v0, K_main_call1_v2, K_main_call1_v5]
  rw [gate_a_ref, if_neg (fun h => h rfl)]
  rfl

/-- The decay of a position. -/
theorem decay_ref : Step.A_main_v81 (F := Ideal) x0 x2 x3 x4 x5 x6 x7 x8 (ix3 t b d)
    = (argsOf x0 x2 x3 x4 x5 x6 x7 x8).decay b d t := by
  open Step in
  pointwise [A_main_v81, A_main_v72]
  rw [log_ref]
  rfl

/-- One less an exponential. -/
theorem one_sub (z : EReal) : -(z - 1) = 1 - z :=
  EReal.neg_sub (Or.inr (by exact EReal.coe_ne_bot 1)) (Or.inr (by exact EReal.coe_ne_top 1)) |>.trans
    (by rw [add_comm, ← sub_eq_add_neg])

/-- The input of a position to the recurrence. -/
theorem drive_ref : Step.A_main_v82 (F := Ideal) x0 x2 x3 x4 x5 x6 x7 x8 (ix3 t b d)
    = (argsOf x0 x2 x3 x4 x5 x6 x7 x8).drive b d t := by
  open Step in
  pointwise [A_main_v82, A_main_v79, A_main_v78, A_main_v77, A_main_v76, A_main_v75, A_main_v74, K_main_cst_5, K_main_v73]
  rw [log_ref, gate_x_ref, conv_ref, one_sub]
  rfl

/-- The row a trip reads is its own. -/
theorem clamp_row (j : ℕ) (hj : j < 8192) (h) : Host.clampedStart S8192x2x512 S1x2x512 h (fun k =>
      (((![constantI S_ 32 (BitVec.ofNat 32 j), constantI S_ 32 0#32, constantI S_ 32 0#32] :
      Fin 3 → (⟨S_, .i32⟩ : BufTy).Contents (Elt Ideal))) k (Shape.Idx.first h_S_)).toInt) 0 = j := by
  have e : (BitVec.ofNat 32 j).toInt = j := by
    rw [BitVec.toInt_eq_toNat_of_lt (by rw [BitVec.toNat_ofNat]; omega), BitVec.toNat_ofNat]; omega
  show (min (max (BitVec.ofNat 32 j).toInt 0) _).toNat = j
  rw [e]
  show (min (max (j : ℤ) 0) (8191 : ℤ)).toNat = j
  omega

/-- A trip reads from the first batch row. -/
theorem clamp_batch (j : ℕ) (h) : Host.clampedStart S8192x2x512 S1x2x512 h (fun k =>
      (((![constantI S_ 32 (BitVec.ofNat 32 j), constantI S_ 32 0#32, constantI S_ 32 0#32] :
      Fin 3 → (⟨S_, .i32⟩ : BufTy).Contents (Elt Ideal))) k (Shape.Idx.first h_S_)).toInt) 1 = 0 := rfl

/-- A trip reads from the first lane. -/
theorem clamp_lane (j : ℕ) (h) : Host.clampedStart S8192x2x512 S1x2x512 h (fun k =>
      (((![constantI S_ 32 (BitVec.ofNat 32 j), constantI S_ 32 0#32, constantI S_ 32 0#32] :
      Fin 3 → (⟨S_, .i32⟩ : BufTy).Contents (Elt Ideal))) k (Shape.Idx.first h_S_)).toInt) 2 = 0 := rfl

/-- A slab cut out at a row. -/
theorem cut_at (A : FVec Ideal S8192x2x512 .f32) (start : Fin 3 → Int) (j : ℕ) (hj : j < 8192)
    (n0 : Host.clampedStart S8192x2x512 S1x2x512 rfl start 0 = j)
    (n1 : Host.clampedStart S8192x2x512 S1x2x512 rfl start 1 = 0)
    (n2 : Host.clampedStart S8192x2x512 S1x2x512 rfl start 2 = 0) :
    shapeCast S2x512 (Host.dynamicSlice S1x2x512 A start sliceFits_S8192x2x512_S1x2x512) shapeCasts_S1x2x512_S2x512 (ix2 b d)
      = A (ix3 ⟨j, hj⟩ b d) := by
  pointwise []
  refine congrArg A (funext fun k => ?_)
  fin_cases k
  · exact Fin.ext (by show Host.clampedStart S8192x2x512 S1x2x512 rfl start 0 = j; exact n0)
  · exact Fin.ext (by show Host.clampedStart S8192x2x512 S1x2x512 rfl start 1 + b.val = b.val; omega)
  · exact Fin.ext (by show Host.clampedStart S8192x2x512 S1x2x512 rfl start 2 + d.val = d.val; omega)

/-- A row of an array with time first. -/
theorem rowOf_at (A : FVec Ideal S8192x2x512 .f32) (j : ℕ) (hj : j < 8192) :
    rowOf A j (ix2 b d) = A (ix3 ⟨j, hj⟩ b d) :=
  cut_at b d A _ j hj (clamp_row j hj _) (clamp_batch j _) (clamp_lane j _)

/-- A slab put in at a row. -/
theorem put_at (A : FVec Ideal S8192x2x512 .f32) (h : FVec Ideal S2x512 .f32) (start : Fin 3 → Int) (j : ℕ) (hj : j < 8192)
    (n0 : Host.clampedStart S8192x2x512 S1x2x512 rfl start 0 = j)
    (n1 : Host.clampedStart S8192x2x512 S1x2x512 rfl start 1 = 0)
    (n2 : Host.clampedStart S8192x2x512 S1x2x512 rfl start 2 = 0) :
    Host.dynamicUpdateSlice A (broadcastInDim S1x2x512 ![1, 2] bcast_S2x512_S1x2x512_1_2 h) start updateFits_S8192x2x512_S1x2x512 (ix3 t b d)
      = if t.val = j then h (ix2 b d) else A (ix3 t b d) := by
  pointwise []
  by_cases e : t.val = j
  · rw [dif_pos (by omega), if_pos e]
    refine congrArg h (funext fun k => ?_)
    fin_cases k
    · exact Fin.ext (by show b.val - Host.clampedStart S8192x2x512 S1x2x512 rfl start 1 = b.val; omega)
    · exact Fin.ext (by show d.val - Host.clampedStart S8192x2x512 S1x2x512 rfl start 2 = d.val; omega)
  · rw [dif_neg (by omega), if_neg e]

/-- The stored states with a row put in. -/
theorem putRow_at (A : FVec Ideal S8192x2x512 .f32) (h : FVec Ideal S2x512 .f32) (j : ℕ) (hj : j < 8192) :
    putRow A h j (ix3 t b d) = if t.val = j then h (ix2 b d) else A (ix3 t b d) :=
  put_at b t d A h _ j hj (clamp_row j hj _) (clamp_batch j _) (clamp_lane j _)

/-- The state of the scan. -/
theorem stateAt_at (j : ℕ) (hj : j ≤ 8192) :
    stateAt (F := Ideal) (Step.A_main_v81 (F := Ideal) x0 x2 x3 x4 x5 x6 x7 x8) (Step.A_main_v82 (F := Ideal) x0 x2 x3 x4 x5 x6 x7 x8) j (ix2 b d)
      = (argsOf x0 x2 x3 x4 x5 x6 x7 x8).state b d j := by
  induction j with
  | zero =>
    show Step.K_main_v80 (F := Ideal) (ix2 b d) = (0 : EReal)
    pointwise [Step.K_main_v80, Step.K_main_cst_6]
  | succ j ih =>
    have e : stateAt (F := Ideal) (Step.A_main_v81 (F := Ideal) x0 x2 x3 x4 x5 x6 x7 x8) (Step.A_main_v82 (F := Ideal) x0 x2 x3 x4 x5 x6 x7 x8) (j + 1) (ix2 b d)
        = (rowOf (F := Ideal) (Step.A_main_v81 (F := Ideal) x0 x2 x3 x4 x5 x6 x7 x8) j (ix2 b d)
          * stateAt (F := Ideal) (Step.A_main_v81 (F := Ideal) x0 x2 x3 x4 x5 x6 x7 x8) (Step.A_main_v82 (F := Ideal) x0 x2 x3 x4 x5 x6 x7 x8) j (ix2 b d)
          + rowOf (F := Ideal) (Step.A_main_v82 (F := Ideal) x0 x2 x3 x4 x5 x6 x7 x8) j (ix2 b d) : EReal) := rfl
    rw [e, ih (by omega), rowOf_at b d _ j (by omega), rowOf_at b d _ j (by omega), decay_ref, drive_ref]
    rfl

/-- The states stored so far. -/
theorem storedAt_at (j : ℕ) (hj : j ≤ 8192) (ht : t.val < j) :
    storedAt (F := Ideal) (Step.A_main_v81 (F := Ideal) x0 x2 x3 x4 x5 x6 x7 x8) (Step.A_main_v82 (F := Ideal) x0 x2 x3 x4 x5 x6 x7 x8) j (ix3 t b d)
      = (argsOf x0 x2 x3 x4 x5 x6 x7 x8).state b d (t + 1) := by
  induction j with
  | zero => omega
  | succ j ih =>
    show putRow _ _ j (ix3 t b d) = _
    rw [putRow_at b t d _ _ j (by omega)]
    by_cases e : t.val = j
    · rw [if_pos e, stateAt_at b d x0 x2 x3 x4 x5 x6 x7 x8 (j + 1) hj, e]
    · rw [if_neg e]
      exact ih (by omega) (by omega)

/-- The result of the reference at an index. -/
theorem result_at (x1 : FVec Ideal S2x8192x512 .f32) :
    gated (F := Ideal) (storedAt (Step.A_main_v81 (F := Ideal) x0 x2 x3 x4 x5 x6 x7 x8) (Step.A_main_v82 (F := Ideal) x0 x2 x3 x4 x5 x6 x7 x8) 8192) x1 (ix3 b t d)
      = (argsOf x0 x2 x3 x4 x5 x6 x7 x8).state b d (t + 1) * Cert.Rg.gelu (x1 (ix3 b t d)) := by
  rw [← storedAt_at b t d x0 x2 x3 x4 x5 x6 x7 x8 8192 le_rfl t.isLt]
  pointwise [gated]
  rfl

end Cert.ReferenceIdeal.Rg

end
-- ==== Proof.RgHost.lean ====
module

public import proofs.«01_k».proof.Proof.RgFrame
public import proofs.«01_k».proof.Proof.RgRefValue
public import proofs.«01_k».proof.Proof.RgSpec
public import Idealize.ShloMosaic.Lib.Pipeline.ValueKit
public import Idealize.ShloMosaic.Lib.Pointwise

/-! # What the windows of the recurrent branch bring

Each input window's block at each grid point, entry by entry, in terms of the arguments: the two gate matrices are
block diagonal, the recurrence's parameter comes as its softplus, the rest as it is. -/

@[expose] public section

set_option maxRecDepth 16384

noncomputable section

namespace Cert.KernelIdeal.Rg

open Idealize.ShloMosaic Idealize.ShloMosaic.TcCoe
open Cert.KernelIdeal Cert.KernelIdeal.Gen
open Cert.Rg (Args)

variable (m : (ℓ : Loc nD τ sig) → Buf (Elt Ideal) ℓ)

/-- Where every window's block sits, at all grid points at once. -/
theorem idx : ∀ t : Fin cfg0.N, win0_0.index t = ![t.val / 16, t.val % 16, 0] ∧ win0_1.index t = ![t.val / 16, t.val % 16, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val / 16, t.val % 16, 0] ∧ t.val < 32 :=
  (by decide +kernel : ∀ t : Fin grid0.N, _)

/-- The arguments of the branch, read from memory. -/
abbrev argsAt (c : Dev nD) : Args :=
  Cert.ReferenceIdeal.Rg.argsOf (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A head-by-head weight matrix laid out as one block diagonal matrix. -/
def diag (w : FVec Ideal S1x8x64x64 .f32) : FVec Ideal S512x512 .bf16 :=
  truncf .bf16 (shapeCast S512x512 (mulf
    (broadcastInDim S8x64x8x64 ![0, 1, 2, 3] bcast_S8x64x1x64_S8x64x8x64_0_1_2_3
      (broadcastInDim S8x64x1x64 ![0, 1, 3] bcast_S8x64x64_S8x64x1x64_0_1_3 (shapeCast S8x64x64 w shapeCasts_S1x8x64x64_S8x64x64)))
    (broadcastInDim S8x64x8x64 ![0, 1, 2, 3] bcast_S8x1x8x1_S8x64x8x64_0_1_2_3
      (broadcastInDim S8x1x8x1 ![0, 2] bcast_S8x8_S8x1x8x1_0_2
        (uitofp .f32 (cmpi .eq (addi (iotaInDim S8x8 32 0) (broadcastInDim S8x8 ![] bcast_S_S8x8 (constantI S_ 32 0#32))) (iotaInDim S8x8 32 1))))))
    shapeCasts_S8x64x8x64_S512x512) bitsLt_bf16_f32

/-- The softplus of the negated parameter, as the host computes it. -/
def soft (l : FVec Ideal S1x512 .f32) : FVec Ideal S1x512 .f32 :=
  let z : FVec Ideal S512 .f32 := Host.negf (shapeCast S512 l shapeCasts_S1x512_S512)
  let o : FVec Ideal S512 .f32 := broadcastInDim S512 ![] bcast_S_S512 (constant S_ .f32 0x00000000#32)
  shapeCast S1x512 (select (cmpf .une (subf z o) (subf z o)) (addf z o)
    (addf (maximumf z o) (Host.log1p (Host.exp (Host.negf (Host.absf (subf z o))))))) shapeCasts_S512_S1x512

/-- The one of the diagonal, zero elsewhere. -/
theorem one_word (p q : Fin 8) :
    (FloatOps.uitofp (F := Ideal) .f32 (IntOp.cmpi .eq (IntOp.addi (BitVec.ofNat 32 p.val) 0#32) (BitVec.ofNat 32 q.val)) : EReal)
      = if p.val = q.val then 1 else 0 := by
  have e : IntOp.cmpi .eq (IntOp.addi (BitVec.ofNat 32 p.val) 0#32) (BitVec.ofNat 32 q.val) = BitVec.ofBool (decide (p.val = q.val)) := by
    revert p q
    decide +kernel
  rw [e]
  by_cases h : p.val = q.val
  · rw [if_pos h, decide_eq_true h]
    show (((BitVec.toNat 1#1 : ℕ) : ℝ) : EReal) = 1
    simp
  · rw [if_neg h, decide_eq_false h]
    show (((BitVec.toNat 0#1 : ℕ) : ℝ) : EReal) = 0
    simp

/-- An entry of the block diagonal matrix. -/
theorem diag_at (w : FVec Ideal S1x8x64x64 .f32) (k d : Fin 512) :
    (diag w (ix2 k d) : EReal) = if k.val / 64 = d.val / 64 then w (ix4 0 ⟨k.val / 64, by omega⟩ ⟨k.val % 64, by omega⟩ ⟨d.val % 64, by omega⟩) else 0 := by
  pointwise [diag]
  refine (congrArg (_ * ·) (one_word ⟨k.val / 64, by omega⟩ ⟨d.val / 64, by omega⟩)).trans ?_
  by_cases h : k.val / 64 = d.val / 64
  · rw [if_pos h, if_pos h, mul_one]
  · rw [if_neg h, if_neg h, mul_zero]

/-- An entry of the softplus row. -/
theorem soft_at (l : FVec Ideal S1x512 .f32) (d : Fin 512) : soft l (ix2 0 d) = Cert.Rg.softplus (-l (ix2 0 d)) := by
  pointwise [soft]
  rw [if_neg (fun h => h rfl)]
  rfl

/-- The handed convolution weights. -/
theorem V_cw (c : Dev nD) : V m c main_v3 = shapeCast S4x512 (m ((c : Thread nD τ).loc main_arg2) : FVec Ideal S1x4x512 .f32) shapeCasts_S1x4x512_S4x512 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The handed convolution bias. -/
theorem V_cb (c : Dev nD) : V m c main_v5 = shapeCast S1x512 (shapeCast S512 (m ((c : Thread nD τ).loc main_arg3) : FVec Ideal S1x512 .f32) shapeCasts_S1x512_S512) shapeCasts_S512_S1x512 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The handed recurrence gate matrix. -/
theorem V_wa (c : Dev nD) : V m c main_v19 = diag (m ((c : Thread nD τ).loc main_arg4)) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The handed recurrence gate bias. -/
theorem V_ba (c : Dev nD) : V m c main_v21 = shapeCast S1x512 (shapeCast S512 (m ((c : Thread nD τ).loc main_arg5) : FVec Ideal S1x512 .f32) shapeCasts_S1x512_S512) shapeCasts_S512_S1x512 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The handed input gate matrix. -/
theorem V_wx (c : Dev nD) : V m c main_v35 = diag (m ((c : Thread nD τ).loc main_arg6)) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The handed input gate bias. -/
theorem V_bx (c : Dev nD) : V m c main_v37 = shapeCast S1x512 (shapeCast S512 (m ((c : Thread nD τ).loc main_arg7) : FVec Ideal S1x512 .f32) shapeCasts_S1x512_S512) shapeCasts_S512_S1x512 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The handed softplus row. -/
theorem V_sp (c : Dev nD) : V m c main_v38 = soft (m ((c : Thread nD τ).loc main_arg8)) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- A row vector flattened and put back. -/
theorem row_at (v : FVec Ideal S1x512 .f32) (d : Fin 512) :
    shapeCast S1x512 (shapeCast S512 v shapeCasts_S1x512_S512) shapeCasts_S512_S1x512 (ix2 0 d) = v (ix2 0 d) := by
  pointwise []

/-- The convolution's weights without their leading dimension. -/
theorem taps_at (v : FVec Ideal S1x4x512 .f32) (j : Fin 4) (d : Fin 512) :
    shapeCast S4x512 v shapeCasts_S1x4x512_S4x512 (ix2 j d) = v (ix3 0 j d) := by
  pointwise []

/-- The convolution's input at a point. -/
theorem x_at (c : Dev nD) (t : Fin cfg0.N) (b : Fin 2) (hb : b.val = t.val / 16) (y d : Fin 512) :
    blk0 m c t (ix3 0 y d) = (argsAt m c).at_ b d (512 * (t.val % 16) + y.val) := by
  have ht := (idx t).2.2.2.2.2.2.2.2.2.2
  have he : ((cfg0.win 0).blk t).view.emb (ix3 0 y d) = ix3 b ⟨512 * (t.val % 16) + y.val, by omega⟩ d := by
    blk_ext [idx t]
  have hm : V m c main_arg0 = m ((c : Thread nD τ).loc main_arg0) := by
    simp only [V, hostOps0, hostOps0_1, hostOps0_2, List.flatten_cons, List.flatten_nil, List.append_nil, List.cons_append,
      List.nil_append, StableHlo.TRef.unary, StableHlo.TRef.binary, StableHlo.TRef.toBuf, StableHlo.TRef.ofBuf, cast_eq]
    after_results_simp
  unfold Args.at_
  rw [dif_pos (by omega)]
  show V m c main_arg0 (((cfg0.win 0).blk t).view.emb (ix3 0 y d)) = _
  rw [he, hm]
  rfl

/-- The gated branch's input at a point. -/
theorem y_at (c : Dev nD) (t : Fin cfg0.N) (b : Fin 2) (hb : b.val = t.val / 16) (y d : Fin 512) (s : Fin 8192)
    (hs : s.val = 512 * (t.val % 16) + y.val) :
    blk1 m c t (ix3 0 y d) = m ((c : Thread nD τ).loc main_arg1) (ix3 b s d) := by
  have ht := (idx t).2.2.2.2.2.2.2.2.2.2
  have he : ((cfg0.win 1).blk t).view.emb (ix3 0 y d) = ix3 b s d := by
    blk_ext [idx t]
  have hm : V m c main_arg1 = m ((c : Thread nD τ).loc main_arg1) := by
    simp only [V, hostOps0, hostOps0_1, hostOps0_2, List.flatten_cons, List.flatten_nil, List.append_nil, List.cons_append,
      List.nil_append, StableHlo.TRef.unary, StableHlo.TRef.binary, StableHlo.TRef.toBuf, StableHlo.TRef.ofBuf, cast_eq]
    after_results_simp
  show V m c main_arg1 (((cfg0.win 1).blk t).view.emb (ix3 0 y d)) = _
  rw [he, hm]

/-- The convolution's weights at a point. -/
theorem cw_at (c : Dev nD) (t : Fin cfg0.N) (j : Fin 4) (d : Fin 512) : blk2 m c t (ix2 j d) = (argsAt m c).cw j d := by
  have he : ((cfg0.win 2).blk t).view.emb (ix2 j d) = ix2 j d := by
    blk_ext [idx t]
  show V m c main_v3 (((cfg0.win 2).blk t).view.emb (ix2 j d)) = _
  rw [he, V_cw]
  exact taps_at _ j d

/-- The convolution's bias at a point. -/
theorem cb_at (c : Dev nD) (t : Fin cfg0.N) (d : Fin 512) : blk3 m c t (ix2 0 d) = (argsAt m c).cb d := by
  have he : ((cfg0.win 3).blk t).view.emb (ix2 0 d) = ix2 0 d := by
    blk_ext [idx t]
  show V m c main_v5 (((cfg0.win 3).blk t).view.emb (ix2 0 d)) = _
  rw [he, V_cb]
  exact row_at _ d

/-- The recurrence gate's matrix at a point. -/
theorem wa_at (c : Dev nD) (t : Fin cfg0.N) (k d : Fin 512) :
    (blk4 m c t (ix2 k d) : EReal) = if k.val / 64 = d.val / 64
      then (argsAt m c).wa ⟨k.val / 64, by omega⟩ ⟨k.val % 64, by omega⟩ ⟨d.val % 64, by omega⟩ else 0 := by
  have he : ((cfg0.win 4).blk t).view.emb (ix2 k d) = ix2 k d := by
    blk_ext [idx t]
  show V m c main_v19 (((cfg0.win 4).blk t).view.emb (ix2 k d)) = _
  rw [he, V_wa]
  exact diag_at _ k d

/-- The recurrence gate's bias at a point. -/
theorem ba_at (c : Dev nD) (t : Fin cfg0.N) (d : Fin 512) : blk5 m c t (ix2 0 d) = (argsAt m c).ba d := by
  have he : ((cfg0.win 5).blk t).view.emb (ix2 0 d) = ix2 0 d := by
    blk_ext [idx t]
  show V m c main_v21 (((cfg0.win 5).blk t).view.emb (ix2 0 d)) = _
  rw [he, V_ba]
  exact row_at _ d

/-- The input gate's matrix at a point. -/
theorem wx_at (c : Dev nD) (t : Fin cfg0.N) (k d : Fin 512) :
    (blk6 m c t (ix2 k d) : EReal) = if k.val / 64 = d.val / 64
      then (argsAt m c).wx ⟨k.val / 64, by omega⟩ ⟨k.val % 64, by omega⟩ ⟨d.val % 64, by omega⟩ else 0 := by
  have he : ((cfg0.win 6).blk t).view.emb (ix2 k d) = ix2 k d := by
    blk_ext [idx t]
  show V m c main_v35 (((cfg0.win 6).blk t).view.emb (ix2 k d)) = _
  rw [he, V_wx]
  exact diag_at _ k d

/-- The input gate's bias at a point. -/
theorem bx_at (c : Dev nD) (t : Fin cfg0.N) (d : Fin 512) : blk7 m c t (ix2 0 d) = (argsAt m c).bx d := by
  have he : ((cfg0.win 7).blk t).view.emb (ix2 0 d) = ix2 0 d := by
    blk_ext [idx t]
  show V m c main_v37 (((cfg0.win 7).blk t).view.emb (ix2 0 d)) = _
  rw [he, V_bx]
  exact row_at _ d

/-- The recurrence's parameter at a point. -/
theorem sp_at (c : Dev nD) (t : Fin cfg0.N) (d : Fin 512) : blk8 m c t (ix2 0 d) = Cert.Rg.softplus (-(argsAt m c).lam d) := by
  have he : ((cfg0.win 8).blk t).view.emb (ix2 0 d) = ix2 0 d := by
    blk_ext [idx t]
  show V m c main_v38 (((cfg0.win 8).blk t).view.emb (ix2 0 d)) = _
  rw [he, V_sp]
  exact soft_at _ d

end Cert.KernelIdeal.Rg

end
-- ==== Proof.RgValue.lean ====
module

public import proofs.«01_k».proof.Proof.RgPay
public import proofs.«01_k».proof.Proof.RgHost

/-! # What the recurrent branch leaves, point after point

By induction over the grid's points: the state a point hands on is the recurrence's state after its block, the rows it
hands on are the last eight of its block, and the block it writes is the states times the gated branch. -/

@[expose] public section

set_option maxRecDepth 16384

noncomputable section

namespace Cert.KernelIdeal.Rg

open Idealize.ShloMosaic Idealize.ShloMosaic.TcCoe
open Idealize.ShloMosaic.Pipeline (Dat)
open Cert.KernelIdeal Cert.KernelIdeal.Gen
open Cert.Rg (Args)

variable (m : (ℓ : Loc nD τ sig) → Buf (Elt Ideal) ℓ)

/-- What a point makes of the right rows and the right state. -/
theorem point_at (c : Dev nD) (t : Fin cfg0.N) (b : Fin 2) (hb : b.val = t.val / 16) (p h : Vec Ideal S8x512 .f32)
    (hp : ∀ (i : Fin 8) (d : Fin 512), (p (ix2 i d) : EReal) = if 8 ≤ 512 * (t.val % 16) + i.val
      then (argsAt m c).at_ b d (512 * (t.val % 16) + i.val - 8) else 0)
    (hh : ∀ (i : Fin 8) (d : Fin 512), (h (ix2 i d) : EReal) = (argsAt m c).state b d (512 * (t.val % 16))) (d : Fin 512) :
    (∀ y : Fin 512, ((pointOut m c t p h).1 (ix3 0 y d) : EReal)
      = (argsAt m c).state b d (512 * (t.val % 16) + y.val + 1) * Cert.Rg.gelu (blk1 m c t (ix3 0 y d)))
    ∧ (∀ i : Fin 8, ((pointOut m c t p h).2.1 (ix2 i d) : EReal) = (argsAt m c).at_ b d (512 * (t.val % 16) + 504 + i.val))
    ∧ (∀ i : Fin 8, ((pointOut m c t p h).2.2 (ix2 i d) : EReal) = (argsAt m c).state b d (512 * (t.val % 16) + 512)) := by
  have ht := (idx t).2.2.2.2.2.2.2.2.2.2
  have hv := conv_at (argsAt m c) b (512 * (t.val % 16)) (by omega) (blk0 m c t) p (blk2 m c t) (blk3 m c t)
    (x_at m c t b hb) hp (cw_at m c t) (cb_at m c t)
  have hl := fun y d => log_at (argsAt m c) b (512 * (t.val % 16)) _ (blk4 m c t) (blk5 m c t) (blk8 m c t) hv (wa_at m c t) (ba_at m c t)
    (sp_at m c t) y d
  have hS := tripled _ _ d (fun r => (argsAt m c).decay b d (512 * (t.val % 16) + r)) (fun r => (argsAt m c).drive b d (512 * (t.val % 16) + r))
    (fun r _ => Cert.Rg.decay_mild _ _ _ _)
    (fun r hr => (colOf_at _ d r hr).trans (decay_at (argsAt m c) b _ _ (blk4 m c t) (blk5 m c t) (blk8 m c t) ⟨r, hr⟩ d (hl ⟨r, hr⟩ d)))
    (fun r hr => (colOf_at _ d r hr).trans (drive_at (argsAt m c) b _ _ (blk4 m c t) (blk6 m c t) (blk5 m c t) (blk7 m c t) (blk8 m c t) hv
      (wx_at m c t) (bx_at m c t) ⟨r, hr⟩ d (hl ⟨r, hr⟩ d)))
  refine ⟨fun y => ?_, fun i => ?_, fun i => ?_⟩
  · refine (out_at _ _ y d).trans ?_
    exact congrArg (· * _) (scanned_at _ _ h d _ _ _ hS (fun i => hh i d) y)
  · refine (tail_at _ i d).trans ((x_at m c t b hb _ d).trans ?_)
    exact congrArg ((argsAt m c).at_ b d) (Nat.add_assoc _ _ _).symm
  · have e := carried_at _ _ h d _ _ _ hS (fun i => hh i d) 64 le_rfl i
    unfold pointOut
    dsimp only
    rw [trips_eq]
    refine Eq.trans ?_ e
    unfold k0_pay4
    exact congrFun (shapeCast_id _ _) _

/-- The zeros a batch row starts from. -/
theorem zero_rows (i : Fin 8) (d : Fin 512) : (k0_pay6 (F := Ideal) (ix2 i d) : EReal) = 0 := by
  pointwise [k0_pay6]

/-- The zero state a batch row starts from. -/
theorem zero_state (i : Fin 8) (d : Fin 512) : (k0_pay7 (F := Ideal) (ix2 i d) : EReal) = 0 := by
  pointwise [k0_pay7]

/-- What every point leaves. -/
theorem left_at (c : Dev nD) (n : ℕ) : ∀ (t : Fin cfg0.N), t.val = n → ∀ (b : Fin 2), b.val = t.val / 16 → ∀ (d : Fin 512),
    (∀ y : Fin 512, ((left m c t.val t.isLt).1 (ix3 0 y d) : EReal)
      = (argsAt m c).state b d (512 * (t.val % 16) + y.val + 1) * Cert.Rg.gelu (blk1 m c t (ix3 0 y d)))
    ∧ (∀ i : Fin 8, ((left m c t.val t.isLt).2.1 (ix2 i d) : EReal) = (argsAt m c).at_ b d (512 * (t.val % 16) + 504 + i.val))
    ∧ (∀ i : Fin 8, ((left m c t.val t.isLt).2.2 (ix2 i d) : EReal) = (argsAt m c).state b d (512 * (t.val % 16) + 512)) := by
  induction n with
  | zero =>
    intro t hn b hb d
    have h0 : t.val % 16 = 0 := by omega
    rw [left_first m c t h0]
    refine point_at m c t b hb _ _ (fun i d => ?_) (fun i d => ?_) d
    · rw [zero_rows, if_neg (by omega)]
    · rw [zero_state, h0]
      rfl
  | succ n ih =>
    intro t hn b hb d
    by_cases h0 : t.val % 16 = 0
    · rw [left_first m c t h0]
      refine point_at m c t b hb _ _ (fun i d => ?_) (fun i d => ?_) d
      · rw [zero_rows, if_neg (by omega)]
      · rw [zero_state, h0]
        rfl
    · rw [left_next m c t h0]
      have hp := fun d => ih ⟨t.val - 1, by omega⟩ (by show t.val - 1 = n; omega) b (by show b.val = (t.val - 1) / 16; omega) d
      refine point_at m c t b hb _ _ (fun i d => ?_) (fun i d => ?_) d
      · rw [if_pos (by omega)]
        refine ((hp d).2.1 i).trans (congrArg ((argsAt m c).at_ b d) ?_)
        show 512 * ((t.val - 1) % 16) + 504 + i.val = _
        omega
      · refine ((hp d).2.2 i).trans (congrArg ((argsAt m c).state b d) ?_)
        show 512 * ((t.val - 1) % 16) + 512 = _
        omega

/-- The whole result: the reference's, from the same arguments. -/
theorem final_at (c : Dev nD) : (dats m 0 c).arrAt 9 cfg0.N
    = Cert.ReferenceIdeal.Rg.gated (F := Ideal) (Cert.ReferenceIdeal.Rg.storedAt
        (Cert.ReferenceIdeal.Step.A_main_v81 (F := Ideal) (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)))
        (Cert.ReferenceIdeal.Step.A_main_v82 (F := Ideal) (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))) 8192)
        (m ((c : Thread nD τ).loc main_arg1)) := by
  refine (dats m 0 c).arrAt_eq_of_covers 9 _ (by decide +kernel) fun t hf y => ?_
  blk_simp
  rw [show (dats m 0 c).after 9 t = (left m c t.val t.isLt).1 from by dsimp only [dats]]
  idx_vars y
  have ht := (idx t).2.2.2.2.2.2.2.2.2.2
  have he : (((cfg0.win 9).blk t).view.emb (ix3 y0 y1 y2)) = ix3 ⟨t.val / 16, by omega⟩ ⟨512 * (t.val % 16) + y1.val, by omega⟩ y2 := by
    blk_ext [idx t]
  rw [he]
  have hy : y0 = 0 := Subsingleton.elim _ _
  subst hy
  refine (((left_at m c _ t rfl ⟨t.val / 16, by omega⟩ rfl y2).1 y1).trans ?_).trans
    (Cert.ReferenceIdeal.Rg.result_at ⟨t.val / 16, by omega⟩ ⟨512 * (t.val % 16) + y1.val, by omega⟩ y2 _ _ _ _ _ _ _ _ _).symm
  rw [y_at m c t ⟨t.val / 16, by omega⟩ rfl y1 y2 ⟨512 * (t.val % 16) + y1.val, by omega⟩ rfl]

end Cert.KernelIdeal.Rg

end
-- ==== Proof.RgClaim.lean ====
module

public import proofs.«01_k».proof.Defs
public import proofs.«01_k».proof.Proof.RgFrameBits
public import proofs.«01_k».proof.Proof.RgValue
public import proofs.«01_k».proof.Proof.RgRef
public import Idealize.ShloMosaic.Lib.Claim
public import Idealize.ShloMosaic.Lib.Quiescent

/-! The claims about the recurrent branch: the three frames, and that the kernel's one result is the reference's. -/

@[expose] public section

set_option maxRecDepth 16384

noncomputable section

open Idealize.ShloMosaic Idealize.SL.Sem

namespace Cert.Rg

/-- The kernel over machine floats leaves every argument as it was. -/
theorem frame_kernel : Cert.quiescent_Kernel := fun m ρ _ => Cert.Kernel.Rg.frame_ok m ρ

/-- The kernel over the extended reals leaves every argument as it was. -/
theorem frame_ideal : Cert.quiescent_KernelIdeal := fun m ρ _ => Cert.KernelIdeal.Rg.frame_ok m ρ

/-- The reference leaves every argument as it was. -/
theorem frame_reference : Cert.quiescent_ReferenceIdeal := fun m ρ _ => Cert.ReferenceIdeal.Rg.frame_ok m ρ

section

open Cert.KernelIdeal Cert.KernelIdeal.Gen

/-- The kernel's run: its result is what the last writes of its blocks make it, its arguments are as they were. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v39) = (Cert.KernelIdeal.Rg.dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.1 c).1 9), h.2.1 c⟩)
    (θ_run_and (Cert.KernelIdeal.Rg.launch_ok m g) (Cert.KernelIdeal.Rg.frame_ok m g))

end

/-- Over the extended reals the kernel's result is the reference's, element by element. -/
theorem same : Cert.algebraic_KernelIdeal_ReferenceIdeal := by
  intro m g m' g' _ hagree
  refine ⟨_, kernel_run m g, ?_⟩
  refine (θ_run Cert.ReferenceIdeal.defs _ _).mono (fun r h c => ?_) (Cert.ReferenceIdeal.Value.run m' g')
  obtain ⟨h0, h1, h2, h3, h4, h5, h6, h7, h8⟩ := hagree c
  obtain ⟨e, a0, a1, a2, a3, a4, a5, a6, a7, a8⟩ := h c
  have e' := e.trans (Cert.ReferenceIdeal.Rg.result_of m' c)
  unfold Cert.ReferenceIdeal.Rg.decay Cert.ReferenceIdeal.Rg.drive at e'
  rw [h0, h1, h2, h3, h4, h5, h6, h7, h8] at e'
  exact ⟨e'.trans (Cert.KernelIdeal.Rg.final_at m c).symm, a0, a1, a2, a3, a4, a5, a6, a7, a8⟩

end Cert.Rg

end
-- ==== Proof.MoePay.lean ====
module

public import proofs.«01_k».proof.Proof.Gen.Kernel2Ideal.Frame
public import Idealize.ShloMosaic.Lib.Pipeline.ValueKit
public import Idealize.ShloMosaic.Lib.Pointwise

/-! # The mixture-of-experts body at an index

The three arithmetic steps of the body read at a row `r` and a lane `l` over the extended reals, and the formulas the
result is stated with: an expert's contribution to a token, what the residual and the gated embedding add to it, and
the layer norm of a row. -/

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

/-- A gated unit of an expert's hidden layer: `a · σ(a) · b`. -/
def swish (a b : EReal) : EReal := a * Ideal.logistic a * b

/-- The layer norm of a row `h`, scaled by `g` and shifted by `b`, at lane `l`. -/
def norm (h : Fin 1024 → EReal) (g b : EReal) (l : Fin 1024) : EReal :=
  (h l - Ideal.div (∑ x, h x) (Ideal.ofBits .f32 0x44800000#32))
      * Ideal.rsqrt (Ideal.div
          (∑ x, (h x - Ideal.div (∑ x, h x) (Ideal.ofBits .f32 0x44800000#32))
            * (h x - Ideal.div (∑ x, h x) (Ideal.ofBits .f32 0x44800000#32)))
          (Ideal.ofBits .f32 0x44800000#32) + Ideal.ofBits .f32 0x3727C5AC#32)
      * g + b

/-- The lane sum that picks an expert's weight: of the 128 lanes only lane `e + 4` is kept. -/
theorem lane_sum (e : ℕ) (he : e < 16) (v : Fin 128 → EReal) :
    (∑ x : Fin 128, Scalar.select (IntOp.cmpi CmpIPredicate.eq (BitVec.ofNat 32 ↑x) (Scalar.addi (BitVec.ofNat 32 e) 4#32))
      (v x) (0 : EReal)) = v ⟨4 + e, by omega⟩ := by
  rw [Finset.sum_eq_single (⟨4 + e, by omega⟩ : Fin 128)]
  · have : (IntOp.cmpi CmpIPredicate.eq (BitVec.ofNat 32 (4 + e)) (Scalar.addi (BitVec.ofNat 32 e) 4#32)) = 1#1 := by
      interval_cases e <;> decide
    simp only [this]
    rfl
  · intro b _ hb
    have : (IntOp.cmpi CmpIPredicate.eq (BitVec.ofNat 32 b.val) (Scalar.addi (BitVec.ofNat 32 e) 4#32)) = 0#1 := by
      have hb' : b.val ≠ 4 + e := fun h => hb (Fin.ext h)
      have h1 : (BitVec.ofNat 32 b.val) ≠ (Scalar.addi (BitVec.ofNat 32 e) 4#32) := by
        intro h
        have := congrArg BitVec.toNat h
        simp [Scalar.addi, IntOp.addi] at this
        have := b.isLt
        omega
      have h2 : (BitVec.ofNat 32 b.val == Scalar.addi (BitVec.ofNat 32 e) 4#32) = false := by
        simpa using h1
      show BitVec.ofBool _ = _
      rw [h2]; rfl
    simp only [this]
    rfl
  · intro h
    exact absurd (Finset.mem_univ _) h

/-- The reset's payload at an index: the scaled residual plus the gated per-layer embedding. -/
theorem pay3_at (v0 : FVec Ideal S1024x1024 .f32) (v36 : FVec Ideal S1024x1024 .bf16)
    (v40 : FVec Ideal S1024x256 .f32) (v43 : FVec Ideal S256x1024 .bf16) (r l : Fin 1024) :
    k0_pay3 (F := Ideal) v0 v36 v40 v43 (ix2 r l)
      = Ideal.ofBits .f32 0x3F9837F0#32 * v0 (ix2 r l)
        + Ideal.logistic (∑ x, v0 (ix2 r x) * v36 (ix2 x l)) * ∑ x, v40 (ix2 r x) * v43 (ix2 x l) := by
  pointwise [k0_pay3, k0_pay2]

/-- One expert's step at an index: the accumulator plus the expert's weight times its output. -/
theorem pay4_at (i : grid0.Coords) (v0 : FVec Ideal S1024x1024 .f32) (v5 : FVec Ideal S1x1024x1024 .bf16)
    (v14 : FVec Ideal S1x512x1024 .bf16) (v17 : FVec Ideal S1024x128 .f32) (v26 : FVec Ideal S1024x1024 .f32)
    (r l : Fin 1024) (e : Fin 16) (he : (i 1).val = e.val) :
    k0_pay4 (F := Ideal) i v0 v5 v14 v17 v26 (ix2 r l)
      = v26 (ix2 r l) + v17 (ix2 r ⟨4 + e.val, by omega⟩)
          * ∑ x : Fin 512, swish (∑ k, v0 (ix2 r k) * v5 (ix3 0 k ⟨x.val, by omega⟩))
              (∑ k, v0 (ix2 r k) * v5 (ix3 0 k ⟨512 + x.val, by omega⟩)) * v14 (ix3 0 x l) := by
  pointwise [k0_pay4, k0_pay2, swish]
  rw [he]
  exact congrArg₂ (· + ·) rfl (congrArg₂ (· * ·) (lane_sum e.val e.isLt fun x => v17 (ix2 r x)) rfl)

/-- The last point's payload at an index: the layer norm of the accumulator's row. -/
theorem pay1_at (v36 : FVec Ideal S1024x1024 .f32) (v37 v39 : FVec Ideal S1x1024 .f32) (r l : Fin 1024) :
    k0_pay1 (F := Ideal) v36 v37 v39 (ix2 r l)
      = norm (fun x => v36 (ix2 r x)) (v37 (ix2 0 l)) (v39 (ix2 0 l)) l := by
  pointwise [k0_pay1, norm]

end Cert.Kernel2Ideal.Moe
-- ==== Proof.MoeRef.lean ====
module

public import proofs.«01_k».proof.Proof.Gen.Reference2Ideal.Read
public import proofs.«01_k».proof.Proof.MoePay

/-! # The mixture-of-experts reference at an index -/

@[expose] public section

set_option maxRecDepth 16384

noncomputable section

open Idealize.ShloMosaic Idealize.ShloMosaic.TcCoe Idealize.SL.Sem

namespace Cert.Moe

open Cert.Reference2Ideal Cert.Reference2Ideal.Read Cert.Kernel2Ideal.Moe

/-- Expert `e`'s weighted output for token `n` at lane `l`. -/
def expert (X : FVec Ideal S16384x1024 .f32) (C : FVec Ideal S16384x128 .f32) (WU : FVec Ideal S1x16x1024x1024 .f32)
    (WD : FVec Ideal S1x16x512x1024 .f32) (n : Fin 16384) (e : Fin 16) (l : Fin 1024) : EReal :=
  C (ix2 n ⟨4 + e.val, by omega⟩)
    * ∑ x : Fin 512, swish (∑ k, X (ix2 n k) * WU (ix4 0 e k ⟨x.val, by omega⟩))
        (∑ k, X (ix2 n k) * WU (ix4 0 e k ⟨512 + x.val, by omega⟩)) * WD (ix4 0 e x l)

/-- The scaled residual plus the gated per-layer embedding of token `n` at lane `l`. -/
def base (X : FVec Ideal S16384x1024 .f32) (P : FVec Ideal S1x2x8192x256 .f32) (WG : FVec Ideal S1x1024x1024 .f32)
    (WP : FVec Ideal S1x256x1024 .f32) (n : Fin 16384) (l : Fin 1024) : EReal :=
  Ideal.ofBits .f32 0x3F9837F0#32 * X (ix2 n l)
    + Ideal.logistic (∑ x, X (ix2 n x) * WG (ix3 0 x l))
      * ∑ x, P (ix4 0 ⟨n.val / 8192, by omega⟩ ⟨n.val % 8192, by omega⟩ x) * WP (ix3 0 x l)

/-- What the closing layer norm is taken of. -/
def pre (X : FVec Ideal S16384x1024 .f32) (C : FVec Ideal S16384x128 .f32) (P : FVec Ideal S1x2x8192x256 .f32)
    (WU : FVec Ideal S1x16x1024x1024 .f32) (WD : FVec Ideal S1x16x512x1024 .f32) (WG : FVec Ideal S1x1024x1024 .f32)
    (WP : FVec Ideal S1x256x1024 .f32) (n : Fin 16384) (l : Fin 1024) : EReal :=
  base X P WG WP n l + ∑ e, expert X C WU WD n e l

/-- The reference's sum before its layer norm is `pre`. -/
theorem pre_ref (X : FVec Ideal S16384x1024 .f32) (C : FVec Ideal S16384x128 .f32) (P : FVec Ideal S1x2x8192x256 .f32)
    (WU : FVec Ideal S1x16x1024x1024 .f32) (WD : FVec Ideal S1x16x512x1024 .f32) (WG : FVec Ideal S1x1024x1024 .f32)
    (WP : FVec Ideal S1x256x1024 .f32) (n : Fin 16384) (l : Fin 1024) :
    val_main_v31 (F := Ideal) X C P WU WD WG WP (ix2 n l) = pre X C P WU WD WG WP n l := by
  pointwise [pre, base, expert, swish, val_main_v31, val_main_v30, val_main_v29, val_main_v28, val_main_cst_2, val_main_v27,
    val_main_v26, val_main_v25, val_main_v24, val_main_v23, val_main_v22, val_main_v21, val_main_cst_1, val_main_v20,
    val_main_v19, val_main_cst_0, val_main_v18, val_main_v17, val_main_v16, val_main_v15, val_main_v14, val_main_cst,
    val_main_v13, val_main_v12, val_main_v11, val_main_v10, val_main_v9, val_main_v8, val_main_v7, val_main_v6, val_main_v5,
    val_main_call0_v5, val_main_call0_v4, val_main_call0_cst_0, val_main_call0_v3, val_main_call0_v2, val_main_call0_cst,
    val_main_call0_v1, val_main_call0_v0, val_main_v4, val_main_v3, val_main_v2, val_main_v1, val_main_v0, Ideal.logistic]
  have h : ∀ (e : Fin 16) (f : Fin 1024), (∑ k, WU (ix4 0 e k f) * X (ix2 n k)) = ∑ k, X (ix2 n k) * WU (ix4 0 e k f) :=
    fun e f => Finset.sum_congr rfl fun k _ => mul_comm _ _
  simp only [h]
  exact add_right_comm _ _ _

/-- The reference's result is the layer norm of `pre`. -/
theorem out_ref (X : FVec Ideal S16384x1024 .f32) (C : FVec Ideal S16384x128 .f32) (P : FVec Ideal S1x2x8192x256 .f32)
    (WU : FVec Ideal S1x16x1024x1024 .f32) (WD : FVec Ideal S1x16x512x1024 .f32) (WG : FVec Ideal S1x1024x1024 .f32)
    (WP : FVec Ideal S1x256x1024 .f32) (G B : FVec Ideal S1x1024 .f32) (n : Fin 16384) (l : Fin 1024) :
    val_main_v57 (F := Ideal) X C P WU WD WG WP G B (ix2 n l)
      = Cert.Kernel2Ideal.Moe.norm (fun x => val_main_v31 (F := Ideal) X C P WU WD WG WP (ix2 n x)) (G (ix2 0 l)) (B (ix2 0 l)) l := by
  pointwise [val_main_v57, val_main_v56, val_main_v55, val_main_v54, val_main_v53, val_main_v52, val_main_v51, val_main_v50,
    val_main_v49, val_main_v48, val_main_v47, val_main_cst_7, val_main_v46, val_main_v45, val_main_v44, val_main_v43,
    val_main_cst_6, val_main_v42, val_main_v41, val_main_cst_5, val_main_v40, val_main_v39, val_main_v38, val_main_v37,
    val_main_v36, val_main_cst_4, val_main_v35, val_main_v34, val_main_cst_3, val_main_v33, val_main_v32]
  rfl

end Cert.Moe
-- ==== Proof.MoeFold.lean ====
module

public import proofs.«01_k».proof.Proof.MoeRef
public import proofs.«01_k».proof.Proof.Gen.Kernel2Ideal.Value

/-! # The mixture-of-experts kernel's result array

Row block `t / 16`, expert `t % 16`: the accumulator's fold over the experts of a row block, the block written back at
the last of them, and the whole array. -/

@[expose] public section

set_option maxRecDepth 16384

noncomputable section

open Idealize.ShloMosaic Idealize.ShloMosaic.TcCoe Idealize.SL.Sem
open Idealize.ShloMosaic.Pipeline (Dat)

namespace Cert.Moe

open Cert.Kernel2Ideal Cert.Kernel2Ideal.Gen Cert.Kernel2Ideal.Moe

variable (m : (ℓ : Loc nD τ sig) → Buf (Elt Ideal) ℓ)

/-- Where every window's block sits, at all grid points at once. -/
theorem idx : ∀ t : Fin cfg0.N, win0_0.index t = ![t.val / 16, 0] ∧ win0_1.index t = ![t.val / 16, 0]
    ∧ win0_2.index t = ![t.val / 16, 0] ∧ win0_3.index t = ![t.val % 16, 0, 0] ∧ win0_4.index t = ![t.val % 16, 0, 0]
    ∧ win0_5.index t = ![0, 0] ∧ win0_6.index t = ![0, 0] ∧ win0_7.index t = ![0, 0] ∧ win0_8.index t = ![0, 0]
    ∧ win0_9.index t = ![t.val / 16, 0] ∧ t.val / 16 < 16 :=
  (by decide +kernel : ∀ t : Fin grid0.N, _)

/-- The second grid coordinate of a point is its expert. -/
theorem coord1 : ∀ t : Fin cfg0.N, (grid0.coords t 1).val = t.val % 16 :=
  (by decide +kernel : ∀ t : Fin grid0.N, _)

/-- The token a row of point `t`'s block is. -/
abbrev tok (t : Fin cfg0.N) (r : Fin 1024) : Fin 16384 :=
  ⟨t.val / 16 * 1024 + r.val, by have := (idx t).2.2.2.2.2.2.2.2.2.2; omega⟩

/-- The expert of point `t`. -/
abbrev ex (t : Fin cfg0.N) : Fin 16 := ⟨t.val % 16, Nat.mod_lt _ (by decide)⟩

/-- A step at point `t`: the accumulator gains the point's expert's weighted output. -/
theorem step_at (c : Dev nD) (t : Fin cfg0.N) (acc : FVec Ideal S1024x1024 .f32) (r l : Fin 1024) :
    k0_pay4 (F := Ideal) (grid0.coords t) (iblk m c 0 t) (iblk m c 3 t) (iblk m c 4 t) (iblk m c 1 t) acc (ix2 r l)
      = acc (ix2 r l) + expert (m ((c : Thread nD τ).loc main_arg0)) (m ((c : Thread nD τ).loc main_arg1))
          (m ((c : Thread nD τ).loc main_arg3)) (m ((c : Thread nD τ).loc main_arg4)) (tok t r) (ex t) l := by
  rw [pay4_at (grid0.coords t) _ _ _ _ _ r l (ex t) (coord1 t)]
  unfold expert swish
  blk_point [iblk, V, idx t]

/-- The reset at point `t`. -/
theorem reset_at (c : Dev nD) (t : Fin cfg0.N) (r l : Fin 1024) :
    k0_pay3 (F := Ideal) (iblk m c 0 t) (iblk m c 5 t) (iblk m c 2 t) (iblk m c 6 t) (ix2 r l)
      = base (m ((c : Thread nD τ).loc main_arg0)) (m ((c : Thread nD τ).loc main_arg2))
          (m ((c : Thread nD τ).loc main_arg5)) (m ((c : Thread nD τ).loc main_arg6)) (tok t r) l := by
  rw [pay3_at]
  unfold base
  blk_point [iblk, V, idx t]

/-- What case A leaves in the scratch. -/
theorem scr_A (c : Dev nD) (t : Fin cfg0.N) (h0 : t.val % 16 = 0) (h1 : ¬t.val % 16 = 15) :
    (outsAt0 m c t.val t.isLt).2 = k0_pay4 (F := Ideal) (grid0.coords t) (iblk m c 0 t) (iblk m c 3 t) (iblk m c 4 t) (iblk m c 1 t)
      (k0_pay3 (F := Ideal) (iblk m c 0 t) (iblk m c 5 t) (iblk m c 2 t) (iblk m c 6 t)) := by
  rw [outsAt0_A m c t h0 h1]
  frame_out

/-- What case B leaves in the scratch. -/
theorem scr_B (c : Dev nD) (t : Fin cfg0.N) (h0 : ¬t.val % 16 = 0) (h1 : ¬t.val % 16 = 15) :
    (outsAt0 m c t.val t.isLt).2 = k0_pay4 (F := Ideal) (grid0.coords t) (iblk m c 0 t) (iblk m c 3 t) (iblk m c 4 t) (iblk m c 1 t)
      (outsAt0 m c (t.val - 1) (Nat.lt_of_le_of_lt (Nat.sub_le _ _) t.isLt)).2 := by
  rw [outsAt0_B m c t h0 h1]
  frame_out
  exact congrArg (k0_pay4 (F := Ideal) (grid0.coords t) (iblk m c 0 t) (iblk m c 3 t) (iblk m c 4 t) (iblk m c 1 t))
    ((Memref.isWhole_whole cc0_scratch0).read_unread _)

/-- What case C leaves in the scratch. -/
theorem scr_C (c : Dev nD) (t : Fin cfg0.N) (h0 : ¬t.val % 16 = 0) (h1 : t.val % 16 = 15) :
    (outsAt0 m c t.val t.isLt).2 = k0_pay4 (F := Ideal) (grid0.coords t) (iblk m c 0 t) (iblk m c 3 t) (iblk m c 4 t) (iblk m c 1 t)
      (outsAt0 m c (t.val - 1) (Nat.lt_of_le_of_lt (Nat.sub_le _ _) t.isLt)).2 := by
  rw [outsAt0_C m c t h0 h1]
  frame_out
  exact congrArg (k0_pay4 (F := Ideal) (grid0.coords t) (iblk m c 0 t) (iblk m c 3 t) (iblk m c 4 t) (iblk m c 1 t))
    ((Memref.isWhole_whole cc0_scratch0).read_unread _)

/-- What case C leaves in the output block: the layer norm of what it left in the scratch. -/
theorem out_C (c : Dev nD) (t : Fin cfg0.N) (h0 : ¬t.val % 16 = 0) (h1 : t.val % 16 = 15) :
    (outsAt0 m c t.val t.isLt).1 = k0_pay1 (F := Ideal) (outsAt0 m c t.val t.isLt).2 (iblk m c 7 t) (iblk m c 8 t) := by
  rw [scr_C m c t h0 h1, outsAt0_C m c t h0 h1]
  frame_out
  exact congrArg (fun a => k0_pay1 (F := Ideal) (k0_pay4 (F := Ideal) (grid0.coords t) (iblk m c 0 t) (iblk m c 3 t)
      (iblk m c 4 t) (iblk m c 1 t) a) (iblk m c 7 t) (iblk m c 8 t))
    ((Memref.isWhole_whole cc0_scratch0).read_unread _)

/-- The accumulator after the last expert of a row block: the reference's sum before its layer norm. -/
theorem acc_at (c : Dev nD) (t : Fin cfg0.N) (ht : t.val % 16 = 15) (r l : Fin 1024) :
    ((outsAt0 m c t.val t.isLt).2 : FVec Ideal S1024x1024 .f32) (ix2 r l)
      = pre (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (tok t r) l := by
  have key := Pipeline.eq_sum_fin_of_reset_step_apply_of_flush
    (fun n h => fun p : Fin 1024 × Fin 1024 => (((outsAt0 m c n h).2 : FVec Ideal S1024x1024 .f32) (ix2 p.1 p.2) : EReal)) 16
    (fun _ => 0)
    (fun t p => (if t.val % 16 = 0 then base (m ((c : Thread nD τ).loc main_arg0)) (m ((c : Thread nD τ).loc main_arg2))
          (m ((c : Thread nD τ).loc main_arg5)) (m ((c : Thread nD τ).loc main_arg6)) (tok t p.1) p.2 else 0)
        + expert (m ((c : Thread nD τ).loc main_arg0)) (m ((c : Thread nD τ).loc main_arg1))
          (m ((c : Thread nD τ).loc main_arg3)) (m ((c : Thread nD τ).loc main_arg4)) (tok t p.1) (ex t) p.2)
    (fun t h p => by
      rw [scr_A m c t h (by omega), step_at, reset_at, if_pos h, zero_add])
    (fun t h p => by
      rw [if_neg h, zero_add]
      by_cases h1 : t.val % 16 = 15
      · rw [scr_C m c t h h1, step_at]
      · rw [scr_B m c t h h1, step_at])
    t ht (r, l)
  dsimp only at key
  rw [key, zero_add, Finset.sum_add_distrib]
  unfold pre
  have hq := (idx t).2.2.2.2.2.2.2.2.2.2
  refine congrArg₂ (· + ·) ?_ ?_
  · rw [Finset.sum_eq_single (0 : Fin 16)]
    · have e : (16 * (t.val / 16) + (0 : Fin 16).val) % 16 = 0 := by simp
      rw [if_pos e]
      refine congrArg (fun n => base _ _ _ _ n l) (Fin.ext ?_)
      show (16 * (t.val / 16) + 0) / 16 * 1024 + r.val = t.val / 16 * 1024 + r.val
      omega
    · intro s _ hs
      refine if_neg fun h => hs (Fin.ext ?_)
      have := s.isLt
      change s.val = 0
      omega
    · intro h
      exact absurd (Finset.mem_univ _) h
  · refine Finset.sum_congr rfl fun s _ => ?_
    have := s.isLt
    refine congrArg₂ (fun n e => expert _ _ _ _ n e l) (Fin.ext ?_) (Fin.ext ?_)
    · show (16 * (t.val / 16) + s.val) / 16 * 1024 + r.val = t.val / 16 * 1024 + r.val
      omega
    · show (16 * (t.val / 16) + s.val) % 16 = s.val
      omega

/-- The result array of the kernel is the reference's result. -/
theorem final (c : Dev nD) : (dats m 0 c).arrAt 9 cfg0.N
    = Cert.Reference2Ideal.Read.val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t hf y => ?_
  have ht : t.val % 16 = 15 := (flush0_9 t).mp hf
  blk_simp
  rw [after0_9, out_C m c t (by omega) ht]
  idx_vars y
  have he : (((cfg0.win 9).blk t).view.emb (ix2 y0 y1)) = ix2 (tok t y0) y1 := by
    blk_ext [idx t]
  rw [he, out_ref, pay1_at]
  rw [show (fun x => ((outsAt0 m c t.val t.isLt).2 : FVec Ideal S1024x1024 .f32) (ix2 y0 x)) = _ from
    funext fun x => (acc_at m c t ht y0 x).trans (pre_ref _ _ _ _ _ _ _ _ _).symm]
  have e7 : (iblk m c 7 t : FVec Ideal S1x1024 .f32) (ix2 0 y1) = m ((c : Thread nD τ).loc main_arg7) (ix2 0 y1) := by
    blk_point [iblk, V, idx t]
  have e8 : (iblk m c 8 t : FVec Ideal S1x1024 .f32) (ix2 0 y1) = m ((c : Thread nD τ).loc main_arg8) (ix2 0 y1) := by
    blk_point [iblk, V, idx t]
  exact congrArg₂ (fun g b => Cert.Kernel2Ideal.Moe.norm _ g b y1) e7 e8

end Cert.Moe
-- ==== Proof.MoeClaim.lean ====
module

public import proofs.«01_k».proof.Defs
public import proofs.«01_k».proof.Proof.MoeFold
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import Idealize.ShloMosaic.Lib.Claim
public import Idealize.ShloMosaic.Lib.Quiescent

/-! The claims about the expert layer: the three frames, and that the kernel's one result is the reference's. -/

@[expose] public section

set_option maxRecDepth 16384

noncomputable section

open Idealize.ShloMosaic Idealize.SL.Sem

namespace Cert.Moe

/-- The kernel over machine floats leaves every argument as it was. -/
theorem frame_kernel : Cert.quiescent_Kernel2 := fun m ρ _ => Cert.Kernel2.Gen.frame m ρ

/-- The kernel over the extended reals leaves every argument as it was. -/
theorem frame_ideal : Cert.quiescent_Kernel2Ideal := fun m ρ _ => Cert.Kernel2Ideal.Gen.frame m ρ

/-- The reference leaves every argument as it was. -/
theorem frame_reference : Cert.quiescent_Reference2Ideal := by
  intro m g _
  exact (θ_run Cert.Reference2Ideal.defs _ _).mono
    (fun r h => ⟨fun c => (h c).2, Idealize.ShloMosaic.sem_eq_zero_of_no_sems (by decide) r.2⟩)
    (Cert.Reference2Ideal.Value.run m g)

/-- Over the extended reals the kernel's result is the reference's, element by element. -/
theorem same : Cert.algebraic_Kernel2Ideal_Reference2Ideal := by
  pair_intro
  · run_from Cert.Kernel2Ideal.Gen.run_main m g
  · run_from Cert.Reference2Ideal.Value.run m' g'
    rw [Cert.Reference2Ideal.Read.val_main_v57_eq]
    obtain ⟨h0, h1, h2, h3, h4, h5, h6, h7, h8⟩ := hagree c
    rw [h0, h1, h2, h3, h4, h5, h6, h7, h8]
    exact (Cert.Moe.final m c).symm

end Cert.Moe
-- ==== Proof.InprojOps.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

/-! The call `inproj` from the outside: where its blocks sit, what the host hands it, and the reference's entries. -/

@[expose] public section

set_option maxRecDepth 16384

noncomputable section

open Idealize.ShloMosaic Idealize.ShloMosaic.TcCoe Idealize.SL.Sem
open Idealize.ShloMosaic.Pipeline (Dat)

namespace Cert.Inproj

open Cert.Kernel3Ideal Cert.Kernel3Ideal.Gen

variable (m : (ℓ : Loc nD τ sig) → Buf (Elt Ideal) ℓ)

/-- Where every window's block sits, at all grid points at once. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val / 16, 0, t.val % 16]
    ∧ t.val < 32 :=
  (by decide +kernel : ∀ t : Fin grid0.N, _)

/-- One entry of the plain product of the tokens with the weight matrix. -/
def proj (X : FVec Ideal S2x8192x1024 .f32) (W : FVec Ideal S1x1024x2328 .f32) (n : Fin 16384) (j : Fin 2328) : EReal :=
  ∑ k : Fin 1024, X (ix3 ⟨n.val / 8192, by omega⟩ ⟨n.val % 8192, by omega⟩ k) * W (ix3 0 k j)

/-- The query columns of a weight matrix, each times one eighth. -/
def wq (W : FVec Ideal S1x1024x2328 .f32) : FVec Ideal S1024x512 .f32 :=
  mulf (extractStridedSlice S1024x512 ![0, 0] (shapeCast S1024x2328 W shapeCasts_S1x1024x2328_S1024x2328) slices_S1024x2328_S1024x512_0_0)
    (broadcastInDim S1024x512 ![] bcast_S_S1024x512 (constant S_ .f32 0x3E000000#32))

/-- The gate columns of a weight matrix, followed by zeros. -/
def wgate (W : FVec Ideal S1x1024x2328 .f32) : FVec Ideal S1024x128 .f32 :=
  pad S1024x128 ![0, 0] ![0, 104] ![0, 0]
    (extractStridedSlice S1024x24 ![0, 1280] (shapeCast S1024x2328 W shapeCasts_S1x1024x2328_S1024x2328) slices_S1024x2328_S1024x24_0_1280)
    (sitofp .f32 (constantI S_ 32 0#32)) pads_S1024x24_S1024x128_000_01040 h_S_

/-- The weight matrix the kernel is handed for its row-major results, as a function of the layer's. -/
def wmain (W : FVec Ideal S1x1024x2328 .f32) : FVec Ideal S1024x2176 .bf16 :=
  truncf .bf16 (concatenate S1024x2176 1
    [⟨S1024x512, wq W⟩,
     ⟨S1024x128, extractStridedSlice S1024x128 ![0, 512] (shapeCast S1024x2328 W shapeCasts_S1x1024x2328_S1024x2328) slices_S1024x2328_S1024x128_0_512⟩,
     ⟨S1024x128, extractStridedSlice S1024x128 ![0, 640] (shapeCast S1024x2328 W shapeCasts_S1x1024x2328_S1024x2328) slices_S1024x2328_S1024x128_0_640⟩,
     ⟨S1024x128, extractStridedSlice S1024x128 ![0, 896] (shapeCast S1024x2328 W shapeCasts_S1x1024x2328_S1024x2328) slices_S1024x2328_S1024x128_0_896⟩,
     ⟨S1024x128, extractStridedSlice S1024x128 ![0, 1152] (shapeCast S1024x2328 W shapeCasts_S1x1024x2328_S1024x2328) slices_S1024x2328_S1024x128_0_1152⟩,
     ⟨S1024x128, wgate W⟩,
     ⟨S1024x1024, extractStridedSlice S1024x1024 ![0, 1304] (shapeCast S1024x2328 W shapeCasts_S1x1024x2328_S1024x2328) slices_S1024x2328_S1024x1024_0_1304⟩]
    concatenates_S1024x512_S1024x128_S1024x128_S1024x128_S1024x128_S1024x128_S1024x1024_S1024x2176_d1) bitsLt_bf16_f32

/-- The weight matrix the kernel is handed for its feature-major result. -/
def wt (W : FVec Ideal S1x1024x2328 .f32) : FVec Ideal S768x1024 .bf16 :=
  truncf .bf16 (transpose S768x1024 [1, 0] (concatenate S1024x768 1
    [⟨S1024x512, wq W⟩,
     ⟨S1024x128, extractStridedSlice S1024x128 ![0, 768] (shapeCast S1024x2328 W shapeCasts_S1x1024x2328_S1024x2328) slices_S1024x2328_S1024x128_0_768⟩,
     ⟨S1024x128, extractStridedSlice S1024x128 ![0, 1024] (shapeCast S1024x2328 W shapeCasts_S1x1024x2328_S1024x2328) slices_S1024x2328_S1024x128_0_1024⟩]
    concatenates_S1024x512_S1024x128_S1024x128_S1024x768_d1) transposes_S1024x768_S768x1024_1_0) bitsLt_bf16_f32

/-- The matrix the host hands over for the row-major results is `wmain` of the layer's weight matrix. -/
theorem V_wmain (c : Dev nD) : V m c main_v12 = wmain (m ((c : Thread nD τ).loc main_arg1)) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The matrix the host hands over for the feature-major result is `wt` of the layer's weight matrix. -/
theorem V_wt (c : Dev nD) : V m c main_v17 = wt (m ((c : Thread nD τ).loc main_arg1)) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The tokens the host hands over are the layer's, both batches in one list. -/
theorem V_x (c : Dev nD) : V m c main_v18 = shapeCast S16384x1024 (m ((c : Thread nD τ).loc main_arg0) : FVec Ideal S2x8192x1024 .f32) shapeCasts_S2x8192x1024_S16384x1024 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

/-- The integer zero converted to a float is zero. -/
theorem zero_word : (FloatOps.sitofp .f32 (0#32) : Ideal .f32) = (0 : EReal) := by
  show (((0#32 : BitVec 32).toInt : ℝ) : EReal) = 0
  simp

/-- A query column of the handed matrix. -/
theorem wq_at (W : FVec Ideal S1x1024x2328 .f32) (k : Fin 1024) (l : Fin 512) :
    wq W (ix2 k l) = W (ix3 0 k ⟨l.val, by omega⟩) * FloatOps.ofBits (F := Ideal) .f32 0x3E000000#32 := by
  pointwise [wq]

/-- The first 24 gate columns are the layer's. -/
theorem wgate_lo (W : FVec Ideal S1x1024x2328 .f32) (k : Fin 1024) (l : Fin 128) (h : l.val < 24) :
    wgate W (ix2 k l) = W (ix3 0 k ⟨1280 + l.val, by omega⟩) := by
  pointwise [wgate]
  rw [dif_pos h]

/-- The others are zero. -/
theorem wgate_hi (W : FVec Ideal S1x1024x2328 .f32) (k : Fin 1024) (l : Fin 128) (h : ¬ l.val < 24) :
    wgate W (ix2 k l) = (0 : EReal) := by
  pointwise [wgate]
  rw [dif_neg h]
  exact zero_word

/-- The columns of the handed matrix that `q` is read from. -/
theorem w_q (W : FVec Ideal S1x1024x2328 .f32) (k : Fin 1024) (l : Fin 512) :
    wmain W (ix2 k ⟨l.val, by omega⟩) = wq W (ix2 k l) := by
  pointwise [wmain]
  all_goals (repeat' split) <;> first | omega | (congr 2; ext; simp; omega) | (congr; omega)

/-- The columns of the handed matrix that `kc` is read from. -/
theorem w_kc (W : FVec Ideal S1x1024x2328 .f32) (k : Fin 1024) (l : Fin 128) :
    wmain W (ix2 k ⟨512 + l.val, by omega⟩) = W (ix3 0 k ⟨512 + l.val, by omega⟩) := by
  pointwise [wmain]
  all_goals (repeat' split) <;> first | omega | (congr 2; ext; simp; omega) | (congr; omega)

/-- The columns of the handed matrix that `vc` is read from. -/
theorem w_vc (W : FVec Ideal S1x1024x2328 .f32) (k : Fin 1024) (l : Fin 128) :
    wmain W (ix2 k ⟨640 + l.val, by omega⟩) = W (ix3 0 k ⟨640 + l.val, by omega⟩) := by
  pointwise [wmain]
  all_goals (repeat' split) <;> first | omega | (congr 2; ext; simp; omega) | (congr; omega)

/-- The columns of the handed matrix that `vs` is read from. -/
theorem w_vs (W : FVec Ideal S1x1024x2328 .f32) (k : Fin 1024) (l : Fin 128) :
    wmain W (ix2 k ⟨768 + l.val, by omega⟩) = W (ix3 0 k ⟨896 + l.val, by omega⟩) := by
  pointwise [wmain]
  all_goals (repeat' split) <;> first | omega | (congr 2; ext; simp; omega) | (congr; omega)

/-- The columns of the handed matrix that `vw` is read from. -/
theorem w_vw (W : FVec Ideal S1x1024x2328 .f32) (k : Fin 1024) (l : Fin 128) :
    wmain W (ix2 k ⟨896 + l.val, by omega⟩) = W (ix3 0 k ⟨1152 + l.val, by omega⟩) := by
  pointwise [wmain]
  all_goals (repeat' split) <;> first | omega | (congr 2; ext; simp; omega) | (congr; omega)

/-- The columns of the handed matrix that `gate` is read from. -/
theorem w_gate (W : FVec Ideal S1x1024x2328 .f32) (k : Fin 1024) (l : Fin 128) :
    wmain W (ix2 k ⟨1024 + l.val, by omega⟩) = wgate W (ix2 k l) := by
  pointwise [wmain]
  all_goals (repeat' split) <;> first | omega | (congr 2; ext; simp; omega) | (congr; omega)

/-- The columns of the handed matrix that `rx` is read from. -/
theorem w_rx (W : FVec Ideal S1x1024x2328 .f32) (k : Fin 1024) (l : Fin 512) :
    wmain W (ix2 k ⟨1152 + l.val, by omega⟩) = W (ix3 0 k ⟨1304 + l.val, by omega⟩) := by
  pointwise [wmain]
  all_goals (repeat' split) <;> first | omega | (congr 2; ext; simp; omega) | (congr; omega)

/-- The columns of the handed matrix that `ry` is read from. -/
theorem w_ry (W : FVec Ideal S1x1024x2328 .f32) (k : Fin 1024) (l : Fin 512) :
    wmain W (ix2 k ⟨1664 + l.val, by omega⟩) = W (ix3 0 k ⟨1816 + l.val, by omega⟩) := by
  pointwise [wmain]
  all_goals (repeat' split) <;> first | omega | (congr 2; ext; simp; omega) | (congr; omega)

/-- The reference's query entry. -/
theorem ref_q (X : FVec Ideal S2x8192x1024 .f32) (W : FVec Ideal S1x1024x2328 .f32) (n : Fin 16384) (l : Fin 512) :
    Cert.Reference3Ideal.Read.val_main_v25 (F := Ideal) X W (ix2 n l)
      = proj X W n ⟨l.val, by omega⟩ * FloatOps.ofBits (F := Ideal) .f32 0x3E000000#32 := by
  pointwise [proj, Cert.Reference3Ideal.Read.val_main_v25, Cert.Reference3Ideal.Read.val_main_v24, Cert.Reference3Ideal.Read.val_main_v8, Cert.Reference3Ideal.Read.val_main_v7, Cert.Reference3Ideal.Read.val_main_v2, Cert.Reference3Ideal.Read.val_main_v1, Cert.Reference3Ideal.Read.val_main_v0, Cert.Reference3Ideal.Read.val_main_cst]

/-- The reference's gate column before the sigmoid. -/
theorem ref_col (X : FVec Ideal S2x8192x1024 .f32) (W : FVec Ideal S1x1024x2328 .f32) (n : Fin 16384) (l : Fin 24) :
    Cert.Reference3Ideal.Read.val_main_v4 (F := Ideal) X W (ix3 ⟨n.val / 8192, by omega⟩ ⟨n.val % 8192, by omega⟩ l) = proj X W n ⟨1280 + l.val, by omega⟩ := by
  pointwise [proj, Cert.Reference3Ideal.Read.val_main_v4, Cert.Reference3Ideal.Read.val_main_v1, Cert.Reference3Ideal.Read.val_main_v0]

/-- The reference's padded gate column. -/
theorem ref_pad (X : FVec Ideal S2x8192x1024 .f32) (W : FVec Ideal S1x1024x2328 .f32) (n : Fin 16384) (l : Fin 128) :
    (Cert.Reference3Ideal.Read.val_main_v15 (F := Ideal) X W (ix3 ⟨n.val / 8192, by omega⟩ ⟨n.val % 8192, by omega⟩ l) : EReal)
      = if h : l.val < 24 then (Cert.Reference3Ideal.Read.val_main_v4 (F := Ideal) X W (ix3 ⟨n.val / 8192, by omega⟩ ⟨n.val % 8192, by omega⟩ ⟨l.val, h⟩) : EReal)
        else (FloatOps.sitofp .f32 (0#32) : Ideal .f32) := by
  pointwise [Cert.Reference3Ideal.Read.val_main_v15, Cert.Reference3Ideal.Read.val_main_call0_v0, Cert.Reference3Ideal.Read.val_main_c]
  by_cases h : l.val < 24
  · rw [dif_pos h]
    exact dif_pos ⟨by omega, by omega, h⟩
  · rw [dif_neg h]
    exact dif_neg fun h' => h h'.2.2

/-- The reference's gate is the logistic function of the padded column. -/
theorem ref_sigmoid (X : FVec Ideal S2x8192x1024 .f32) (W : FVec Ideal S1x1024x2328 .f32) (n : Fin 16384) (l : Fin 128) :
    Cert.Reference3Ideal.Read.val_main_v32 (F := Ideal) X W (ix2 n l)
      = Ideal.logistic (Cert.Reference3Ideal.Read.val_main_v15 (F := Ideal) X W (ix3 ⟨n.val / 8192, by omega⟩ ⟨n.val % 8192, by omega⟩ l)) := by
  pointwise [Ideal.logistic, Cert.Reference3Ideal.Read.val_main_v32, Cert.Reference3Ideal.Read.val_main_v21, Cert.Reference3Ideal.Read.val_main_v20, Cert.Reference3Ideal.Read.val_main_v19, Cert.Reference3Ideal.Read.val_main_v18, Cert.Reference3Ideal.Read.val_main_v17, Cert.Reference3Ideal.Read.val_main_v16, Cert.Reference3Ideal.Read.val_main_cst_0, Cert.Reference3Ideal.Read.val_main_cst_1]

/-- The reference's gate entry: the first 24 columns. -/
theorem ref_gate_lo (X : FVec Ideal S2x8192x1024 .f32) (W : FVec Ideal S1x1024x2328 .f32) (n : Fin 16384) (l : Fin 128) (h : l.val < 24) :
    Cert.Reference3Ideal.Read.val_main_v32 (F := Ideal) X W (ix2 n l) = Ideal.logistic (proj X W n ⟨1280 + l.val, by omega⟩) :=
  (ref_sigmoid X W n l).trans (congrArg Ideal.logistic (((ref_pad X W n l).trans (dif_pos h)).trans (ref_col X W n ⟨l.val, h⟩)))

/-- The reference's gate entry: the padding. -/
theorem ref_gate_hi (X : FVec Ideal S2x8192x1024 .f32) (W : FVec Ideal S1x1024x2328 .f32) (n : Fin 16384) (l : Fin 128) (h : ¬ l.val < 24) :
    Cert.Reference3Ideal.Read.val_main_v32 (F := Ideal) X W (ix2 n l) = Ideal.logistic 0 :=
  (ref_sigmoid X W n l).trans (congrArg Ideal.logistic (((ref_pad X W n l).trans (dif_neg h)).trans zero_word))

/-- The reference's `kc` entry. -/
theorem ref_kc (X : FVec Ideal S2x8192x1024 .f32) (W : FVec Ideal S1x1024x2328 .f32) (n : Fin 16384) (l : Fin 128) :
    Cert.Reference3Ideal.Read.val_main_v26 (F := Ideal) X W (ix2 n l) = proj X W n ⟨512 + l.val, by omega⟩ := by
  pointwise [proj, Cert.Reference3Ideal.Read.val_main_v26, Cert.Reference3Ideal.Read.val_main_v9, Cert.Reference3Ideal.Read.val_main_v3, Cert.Reference3Ideal.Read.val_main_v1, Cert.Reference3Ideal.Read.val_main_v0]

/-- The reference's `vc` entry. -/
theorem ref_vc (X : FVec Ideal S2x8192x1024 .f32) (W : FVec Ideal S1x1024x2328 .f32) (n : Fin 16384) (l : Fin 128) :
    Cert.Reference3Ideal.Read.val_main_v27 (F := Ideal) X W (ix2 n l) = proj X W n ⟨640 + l.val, by omega⟩ := by
  pointwise [proj, Cert.Reference3Ideal.Read.val_main_v27, Cert.Reference3Ideal.Read.val_main_v10, Cert.Reference3Ideal.Read.val_main_v3, Cert.Reference3Ideal.Read.val_main_v1, Cert.Reference3Ideal.Read.val_main_v0]
  exact Finset.sum_congr rfl fun k _ => congrArg (fun j => _ * W (ix3 0 k j)) (Fin.ext (show 512 + (128 + l.val) = 640 + l.val by omega))

/-- The reference's `vs` entry. -/
theorem ref_vs (X : FVec Ideal S2x8192x1024 .f32) (W : FVec Ideal S1x1024x2328 .f32) (n : Fin 16384) (l : Fin 128) :
    Cert.Reference3Ideal.Read.val_main_v29 (F := Ideal) X W (ix2 n l) = proj X W n ⟨896 + l.val, by omega⟩ := by
  pointwise [proj, Cert.Reference3Ideal.Read.val_main_v29, Cert.Reference3Ideal.Read.val_main_v28, Cert.Reference3Ideal.Read.val_main_v12, Cert.Reference3Ideal.Read.val_main_v3, Cert.Reference3Ideal.Read.val_main_v1, Cert.Reference3Ideal.Read.val_main_v0]
  exact Finset.sum_congr rfl fun k _ => congrArg (fun j => _ * W (ix3 0 k j)) (Fin.ext (show 512 + (384 + l.val) = 896 + l.val by omega))

/-- The reference's `vw` entry. -/
theorem ref_vw (X : FVec Ideal S2x8192x1024 .f32) (W : FVec Ideal S1x1024x2328 .f32) (n : Fin 16384) (l : Fin 128) :
    Cert.Reference3Ideal.Read.val_main_v31 (F := Ideal) X W (ix2 n l) = proj X W n ⟨1152 + l.val, by omega⟩ := by
  pointwise [proj, Cert.Reference3Ideal.Read.val_main_v31, Cert.Reference3Ideal.Read.val_main_v30, Cert.Reference3Ideal.Read.val_main_v14, Cert.Reference3Ideal.Read.val_main_v3, Cert.Reference3Ideal.Read.val_main_v1, Cert.Reference3Ideal.Read.val_main_v0]
  exact Finset.sum_congr rfl fun k _ => congrArg (fun j => _ * W (ix3 0 k j)) (Fin.ext (show 512 + (640 + l.val) = 1152 + l.val by omega))

/-- The reference's `rx` entry. -/
theorem ref_rx (X : FVec Ideal S2x8192x1024 .f32) (W : FVec Ideal S1x1024x2328 .f32) (n : Fin 16384) (l : Fin 512) :
    Cert.Reference3Ideal.Read.val_main_v33 (F := Ideal) X W (ix2 n l) = proj X W n ⟨1304 + l.val, by omega⟩ := by
  pointwise [proj, Cert.Reference3Ideal.Read.val_main_v33, Cert.Reference3Ideal.Read.val_main_v5, Cert.Reference3Ideal.Read.val_main_v1, Cert.Reference3Ideal.Read.val_main_v0]

/-- The reference's `ry` entry. -/
theorem ref_ry (X : FVec Ideal S2x8192x1024 .f32) (W : FVec Ideal S1x1024x2328 .f32) (n : Fin 16384) (l : Fin 512) :
    Cert.Reference3Ideal.Read.val_main_v34 (F := Ideal) X W (ix2 n l) = proj X W n ⟨1816 + l.val, by omega⟩ := by
  pointwise [proj, Cert.Reference3Ideal.Read.val_main_v34, Cert.Reference3Ideal.Read.val_main_v6, Cert.Reference3Ideal.Read.val_main_v1, Cert.Reference3Ideal.Read.val_main_v0]

/-- Token `n` of the flattened tokens. -/
theorem x_cast (X : FVec Ideal S2x8192x1024 .f32) (n : Fin 16384) (k : Fin 1024) :
    shapeCast S16384x1024 X shapeCasts_S2x8192x1024_S16384x1024 (ix2 n k) = X (ix3 ⟨n.val / 8192, by omega⟩ ⟨n.val % 8192, by omega⟩ k) := by
  pointwise

/-- A row of the tokens' block. -/
theorem x_at (c : Dev nD) (t : Fin cfg0.N) (r : Fin 512) (k : Fin 1024) (n : Fin 16384) (hn : n.val = t.val * 512 + r.val) :
    iblk m c 0 t (ix2 r k) = m ((c : Thread nD τ).loc main_arg0) (ix3 ⟨n.val / 8192, by omega⟩ ⟨n.val % 8192, by omega⟩ k) := by
  have he : ((cfg0.win 0).blk t).view.emb (ix2 r k) = ix2 n k := by
    blk_ext [idx t]
  show V m c main_v18 (((cfg0.win 0).blk t).view.emb (ix2 r k)) = _
  rw [he, V_x]
  exact x_cast _ n k

/-- The row-major weight window is the whole matrix. -/
theorem w1_at (c : Dev nD) (t : Fin cfg0.N) (k : Fin 1024) (j : Fin 2176) :
    iblk m c 1 t (ix2 k j) = wmain (m ((c : Thread nD τ).loc main_arg1)) (ix2 k j) := by
  have he : ((cfg0.win 1).blk t).view.emb (ix2 k j) = ix2 k j := by
    blk_ext [idx t]
  show V m c main_v12 (((cfg0.win 1).blk t).view.emb (ix2 k j)) = _
  rw [he, V_wmain]

/-- The feature-major weight window is the whole matrix. -/
theorem w2_at (c : Dev nD) (t : Fin cfg0.N) (j : Fin 768) (k : Fin 1024) :
    iblk m c 2 t (ix2 j k) = wt (m ((c : Thread nD τ).loc main_arg1)) (ix2 j k) := by
  have he : ((cfg0.win 2).blk t).view.emb (ix2 j k) = ix2 j k := by
    blk_ext [idx t]
  show V m c main_v17 (((cfg0.win 2).blk t).view.emb (ix2 j k)) = _
  rw [he, V_wt]

/-- One eighth, as a float constant, is the real one eighth. -/
theorem eighth : (FloatOps.ofBits (F := Ideal) .f32 0x3E000000#32 : EReal) = ((1 / 8 : ℝ) : EReal) := by
  show Ideal.ofBits .f32 _ = _
  simp [Ideal.ofBits, Ideal.ieee, -EReal.coe_mul]
  norm_num

/-- A factor that is a nonnegative real comes out of a sum of extended reals. -/
theorem sum_scale (c : ℝ) (hc : 0 ≤ c) (n : ℕ) (f : Fin n → EReal) : ∑ k, f k * (c : EReal) = (∑ k, f k) * (c : EReal) := by
  induction n with
  | zero => simp
  | succ n ih =>
    rw [Fin.sum_univ_castSucc, Fin.sum_univ_castSucc, ih, EReal.right_distrib_of_nonneg_of_ne_top (by exact_mod_cast hc) (EReal.coe_ne_top _)]

end Cert.Inproj
-- ==== Proof.Inproj.lean ====
module

public import proofs.«01_k».proof.Proof.InprojOps
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Inproj

open Cert.Kernel3Ideal Cert.Kernel3Ideal.Gen

variable (m : (ℓ : Loc nD τ sig) → Buf (Elt Ideal) ℓ)

/-- What the body stores for `q`, entry by entry. -/
theorem out_q (x0 : FVec Ideal S512x1024 .f32) (x1 : FVec Ideal S1024x2176 .bf16) (x2 : FVec Ideal S768x1024 .bf16) (r : Fin 512) (l : Fin 512) :
    (out0_3 (F := Ideal) x0 x1 x2 : S512x512.Idx → EReal) (ix2 r l) = (∑ k : Fin 1024, x0 (ix2 r k) * x1 (ix2 k ⟨l.val, by omega⟩) : EReal) := by
  frame_out
  pointwise [k0_pay5, k0_pay6]

/-- What the body stores for `kc`, entry by entry. -/
theorem out_kc (x0 : FVec Ideal S512x1024 .f32) (x1 : FVec Ideal S1024x2176 .bf16) (x2 : FVec Ideal S768x1024 .bf16) (r : Fin 512) (l : Fin 128) :
    (out0_4 (F := Ideal) x0 x1 x2 : S512x128.Idx → EReal) (ix2 r l) = (∑ k : Fin 1024, x0 (ix2 r k) * x1 (ix2 k ⟨512 + l.val, by omega⟩) : EReal) := by
  frame_out
  pointwise [k0_pay5, k0_pay7]

/-- What the body stores for `vc`, entry by entry. -/
theorem out_vc (x0 : FVec Ideal S512x1024 .f32) (x1 : FVec Ideal S1024x2176 .bf16) (x2 : FVec Ideal S768x1024 .bf16) (r : Fin 512) (l : Fin 128) :
    (out0_5 (F := Ideal) x0 x1 x2 : S512x128.Idx → EReal) (ix2 r l) = (∑ k : Fin 1024, x0 (ix2 r k) * x1 (ix2 k ⟨640 + l.val, by omega⟩) : EReal) := by
  frame_out
  pointwise [k0_pay5, k0_pay8]

/-- What the body stores for `vs`, entry by entry. -/
theorem out_vs (x0 : FVec Ideal S512x1024 .f32) (x1 : FVec Ideal S1024x2176 .bf16) (x2 : FVec Ideal S768x1024 .bf16) (r : Fin 512) (l : Fin 128) :
    (out0_6 (F := Ideal) x0 x1 x2 : S512x128.Idx → EReal) (ix2 r l) = (∑ k : Fin 1024, x0 (ix2 r k) * x1 (ix2 k ⟨768 + l.val, by omega⟩) : EReal) := by
  frame_out
  pointwise [k0_pay5, k0_pay9]

/-- What the body stores for `vw`, entry by entry. -/
theorem out_vw (x0 : FVec Ideal S512x1024 .f32) (x1 : FVec Ideal S1024x2176 .bf16) (x2 : FVec Ideal S768x1024 .bf16) (r : Fin 512) (l : Fin 128) :
    (out0_7 (F := Ideal) x0 x1 x2 : S512x128.Idx → EReal) (ix2 r l) = (∑ k : Fin 1024, x0 (ix2 r k) * x1 (ix2 k ⟨896 + l.val, by omega⟩) : EReal) := by
  frame_out
  pointwise [k0_pay5, k0_pay10]

/-- What the body stores for `gate`, entry by entry. -/
theorem out_gate (x0 : FVec Ideal S512x1024 .f32) (x1 : FVec Ideal S1024x2176 .bf16) (x2 : FVec Ideal S768x1024 .bf16) (r : Fin 512) (l : Fin 128) :
    (out0_8 (F := Ideal) x0 x1 x2 : S512x128.Idx → EReal) (ix2 r l) = (Ideal.logistic (∑ k : Fin 1024, x0 (ix2 r k) * x1 (ix2 k ⟨1024 + l.val, by omega⟩)) : EReal) := by
  frame_out
  pointwise [k0_pay5, k0_pay1, k0_pay11]

/-- What the body stores for `rx`, entry by entry. -/
theorem out_rx (x0 : FVec Ideal S512x1024 .f32) (x1 : FVec Ideal S1024x2176 .bf16) (x2 : FVec Ideal S768x1024 .bf16) (r : Fin 512) (l : Fin 512) :
    (out0_9 (F := Ideal) x0 x1 x2 : S512x512.Idx → EReal) (ix2 r l) = (∑ k : Fin 1024, x0 (ix2 r k) * x1 (ix2 k ⟨1152 + l.val, by omega⟩) : EReal) := by
  frame_out
  pointwise [k0_pay5, k0_pay2, k0_pay11]

/-- What the body stores for `ry`, entry by entry. -/
theorem out_ry (x0 : FVec Ideal S512x1024 .f32) (x1 : FVec Ideal S1024x2176 .bf16) (x2 : FVec Ideal S768x1024 .bf16) (r : Fin 512) (l : Fin 512) :
    (out0_10 (F := Ideal) x0 x1 x2 : S512x512.Idx → EReal) (ix2 r l) = (∑ k : Fin 1024, x0 (ix2 r k) * x1 (ix2 k ⟨1664 + l.val, by omega⟩) : EReal) := by
  frame_out
  pointwise [k0_pay5, k0_pay3, k0_pay11]

/-- A product row over the kernel's blocks, where the weight column is a column of the layer's matrix. -/
theorem prod_at (c : Dev nD) (t : Fin cfg0.N) (r : Fin 512) (n : Fin 16384) (hn : n.val = t.val * 512 + r.val)
    (A : FVec Ideal S512x1024 .f32) (B : FVec Ideal S1024x2176 .bf16) (hA : A = iblk m c 0 t) (hB : B = iblk m c 1 t)
    (X : FVec Ideal S2x8192x1024 .f32) (W : FVec Ideal S1x1024x2328 .f32) (hX : X = m ((c : Thread nD τ).loc main_arg0))
    (hW : W = m ((c : Thread nD τ).loc main_arg1)) (j : Fin 2176) (j' : Fin 2328) (h : ∀ k, wmain W (ix2 k j) = W (ix3 0 k j')) :
    (∑ k : Fin 1024, A (ix2 r k) * B (ix2 k j) : EReal) = proj X W n j' := by
  subst hA hB hX hW
  exact Finset.sum_congr rfl fun k _ => congrArg₂ (fun a b : EReal => a * b) (x_at m c t r k n hn) ((w1_at m c t k j).trans (h k))

/-- The kernel's `kc` array is the reference's. -/
theorem final_kc (c : Dev nD) : (dats m 0 c).arrAt 4 cfg0.N
    = Cert.Reference3Ideal.Read.val_main_v26 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  idx_vars y
  have ht := (idx t).2.2.2.2.2.2.2.2.2.2.2.2
  have he : (((cfg0.win 4).blk t).view.emb (ix2 y0 y1)) = ix2 ⟨t.val * 512 + y0.val, by omega⟩ y1 := by
    blk_ext [idx t]
  rw [he, ref_kc]
  exact (out_kc _ _ _ y0 y1).trans (prod_at m c t y0 ⟨t.val * 512 + y0.val, by omega⟩ rfl _ _ rfl rfl _ _ rfl rfl _ _ fun k => w_kc _ k y1)

/-- The kernel's `vc` array is the reference's. -/
theorem final_vc (c : Dev nD) : (dats m 0 c).arrAt 5 cfg0.N
    = Cert.Reference3Ideal.Read.val_main_v27 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  idx_vars y
  have ht := (idx t).2.2.2.2.2.2.2.2.2.2.2.2
  have he : (((cfg0.win 5).blk t).view.emb (ix2 y0 y1)) = ix2 ⟨t.val * 512 + y0.val, by omega⟩ y1 := by
    blk_ext [idx t]
  rw [he, ref_vc]
  exact (out_vc _ _ _ y0 y1).trans (prod_at m c t y0 ⟨t.val * 512 + y0.val, by omega⟩ rfl _ _ rfl rfl _ _ rfl rfl _ _ fun k => w_vc _ k y1)

/-- The kernel's `vs` array is the reference's. -/
theorem final_vs (c : Dev nD) : (dats m 0 c).arrAt 6 cfg0.N
    = Cert.Reference3Ideal.Read.val_main_v29 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  idx_vars y
  have ht := (idx t).2.2.2.2.2.2.2.2.2.2.2.2
  have he : (((cfg0.win 6).blk t).view.emb (ix2 y0 y1)) = ix2 ⟨t.val * 512 + y0.val, by omega⟩ y1 := by
    blk_ext [idx t]
  rw [he, ref_vs]
  exact (out_vs _ _ _ y0 y1).trans (prod_at m c t y0 ⟨t.val * 512 + y0.val, by omega⟩ rfl _ _ rfl rfl _ _ rfl rfl _ _ fun k => w_vs _ k y1)

/-- The kernel's `vw` array is the reference's. -/
theorem final_vw (c : Dev nD) : (dats m 0 c).arrAt 7 cfg0.N
    = Cert.Reference3Ideal.Read.val_main_v31 (F := Ideal) (m ((c : Thread nD τ).loc main_arg0)) (m ((c : Thread nD τ).loc main_arg1)) := by
  refine (dats m 0 c).arrAt_eq_of_covers 7 _ (by decide +kernel) fun t hf y => ?_
  blk_simp
  rw [after0_7]
  idx_vars y
  have ht := (idx t).2.2.2.2.2.2.2.2.2.2.2.2
  have he : (((cfg0.win 7).blk t).view.emb (ix2 y0 y1)) = ix2 ⟨t.val * 512 + y0.val, by omega⟩ y1 := by
    blk_ext [idx t]
  rw [he, ref_vw]
  exact (out_vw _ _ _ y0 y1).trans (prod_at m c t y0 ⟨t.val * 512 + y0.val, by omega⟩ rfl _ _ rfl rfl _ _ rfl rfl _ _ fun k => w_vw _ k y1)

/-- The kernel's `rx` array is the reference's. -/
theorem final_rx (c : Dev nD) : (dats m 0 c).arrAt 9 cfg0.N
    = Cert.Reference3Ideal.Read.val_main_v33 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  idx_vars y
  have ht := (idx t).2.2.2.2.2.2.2.2.2.2.2.2
  have he : (((cfg0.win 9).blk t).view.emb (ix2 y0 y1)) = ix2 ⟨t.val * 512 + y0.val, by omega⟩ y1 := by
    blk_ext [idx t]
  rw [he, ref_rx]
  exact (out_rx _ _ _ y0 y1).trans (prod_at m c t y0 ⟨t.val * 512 + y0.val, by omega⟩ rfl _ _ rfl rfl _ _ rfl rfl _ _ fun k => w_rx _ k y1)

/-- The kernel's `ry` array is the reference's. -/
theorem final_ry (c : Dev nD) : (dats m 0 c).arrAt 10 cfg0.N
    = Cert.Reference3Ideal.Read.val_main_v34 (F := Ideal) (m ((c : Thread nD τ).loc main_arg0)) (m ((c : Thread nD τ).loc main_arg1)) := by
  refine (dats m 0 c).arrAt_eq_of_covers 10 _ (by decide +kernel) fun t hf y => ?_
  blk_simp
  rw [after0_10]
  idx_vars y
  have ht := (idx t).2.2.2.2.2.2.2.2.2.2.2.2
  have he : (((cfg0.win 10).blk t).view.emb (ix2 y0 y1)) = ix2 ⟨t.val * 512 + y0.val, by omega⟩ y1 := by
    blk_ext [idx t]
  rw [he, ref_ry]
  exact (out_ry _ _ _ y0 y1).trans (prod_at m c t y0 ⟨t.val * 512 + y0.val, by omega⟩ rfl _ _ rfl rfl _ _ rfl rfl _ _ fun k => w_ry _ k y1)

end Cert.Inproj
-- ==== Proof.InprojRest.lean ====
module

public import proofs.«01_k».proof.Proof.Inproj
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Inproj

open Cert.Kernel3Ideal Cert.Kernel3Ideal.Gen

variable (m : (ℓ : Loc nD τ sig) → Buf (Elt Ideal) ℓ)

/-- A query row over the kernel's blocks: the scale on the weights comes out of the sum. -/
theorem scaled (c : Dev nD) (t : Fin cfg0.N) (r : Fin 512) (n : Fin 16384) (hn : n.val = t.val * 512 + r.val)
    (A : FVec Ideal S512x1024 .f32) (hA : A = iblk m c 0 t) (w : Fin 1024 → EReal)
    (X : FVec Ideal S2x8192x1024 .f32) (W : FVec Ideal S1x1024x2328 .f32) (hX : X = m ((c : Thread nD τ).loc main_arg0))
    (l : Fin 512) (h : ∀ k, w k = wq W (ix2 k l)) :
    (∑ k : Fin 1024, A (ix2 r k) * w k : EReal)
      = proj X W n ⟨l.val, by omega⟩ * FloatOps.ofBits (F := Ideal) .f32 0x3E000000#32 := by
  subst hA hX
  refine Eq.trans ?_ ((sum_scale _ (by norm_num : (0 : ℝ) ≤ 1 / 8) 1024 _).trans (congrArg (_ * ·) eighth.symm))
  refine Finset.sum_congr rfl fun k _ => ?_
  refine (congrArg₂ (fun a b : EReal => a * b) (x_at m c t r k n hn) ((h k).trans ((wq_at W k l).trans (congrArg (_ * ·) eighth)))).trans ?_
  exact (mul_assoc _ _ _).symm

/-- The kernel's `q` array is the reference's. -/
theorem final_q (c : Dev nD) : (dats m 0 c).arrAt 3 cfg0.N
    = Cert.Reference3Ideal.Read.val_main_v25 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  idx_vars y
  have ht := (idx t).2.2.2.2.2.2.2.2.2.2.2.2
  have he : (((cfg0.win 3).blk t).view.emb (ix2 y0 y1)) = ix2 ⟨t.val * 512 + y0.val, by omega⟩ y1 := by
    blk_ext [idx t]
  rw [he, ref_q]
  exact (out_q _ _ _ y0 y1).trans (scaled m c t y0 ⟨t.val * 512 + y0.val, by omega⟩ rfl _ rfl _ _ _ rfl y1
    fun k => (w1_at m c t k _).trans (w_q _ k y1))

/-- A padded gate column times the tokens is zero. -/
theorem prod_zero (c : Dev nD) (t : Fin cfg0.N) (A : Fin 1024 → EReal) (B : Fin 1024 → EReal) (h : ∀ k, B k = 0) :
    (∑ k : Fin 1024, A k * B k : EReal) = 0 :=
  Finset.sum_eq_zero fun k _ => by rw [h k, mul_zero]

/-- The kernel's `gate` array is the reference's. -/
theorem final_gate (c : Dev nD) : (dats m 0 c).arrAt 8 cfg0.N
    = Cert.Reference3Ideal.Read.val_main_v32 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  idx_vars y
  have ht := (idx t).2.2.2.2.2.2.2.2.2.2.2.2
  have he : (((cfg0.win 8).blk t).view.emb (ix2 y0 y1)) = ix2 ⟨t.val * 512 + y0.val, by omega⟩ y1 := by
    blk_ext [idx t]
  rw [he]
  by_cases h : y1.val < 24
  · rw [ref_gate_lo _ _ _ _ h]
    exact (out_gate _ _ _ y0 y1).trans (congrArg Ideal.logistic (prod_at m c t y0 ⟨t.val * 512 + y0.val, by omega⟩ rfl _ _ rfl rfl _ _ rfl rfl _ _
      fun k => (w_gate _ k y1).trans (wgate_lo _ k y1 h)))
  · rw [ref_gate_hi _ _ _ _ h]
    exact (out_gate _ _ _ y0 y1).trans (congrArg Ideal.logistic (prod_zero c t _ _
      fun k => (w1_at m c t k _).trans ((w_gate _ k y1).trans (wgate_hi _ k y1 h))))

/-- What the body stores for the feature-major result, entry by entry. -/
theorem out_qk (x0 : FVec Ideal S512x1024 .f32) (x1 : FVec Ideal S1024x2176 .bf16) (x2 : FVec Ideal S768x1024 .bf16) (f : Fin 768) (s : Fin 512) :
    (out0_11 (F := Ideal) x0 x1 x2 : S1x768x512.Idx → EReal) (ix3 0 f s) = (∑ k : Fin 1024, x0 (ix2 s k) * x2 (ix2 f k) : EReal) := by
  frame_out
  pointwise [k0_pay5, k0_pay4, k0_pay11]
  exact Finset.sum_congr rfl fun k _ => mul_comm _ _

/-- A feature row of the handed matrix: the queries. -/
theorem wt_q (W : FVec Ideal S1x1024x2328 .f32) (k : Fin 1024) (f : Fin 768) (h : f.val < 512) :
    wt W (ix2 f k) = wq W (ix2 k ⟨f.val, h⟩) := by
  pointwise [wt]
  rw [dif_pos h]

/-- A feature row of the handed matrix: the selected keys. -/
theorem wt_k1 (W : FVec Ideal S1x1024x2328 .f32) (k : Fin 1024) (f : Fin 768) (h : ¬ f.val < 512) (h' : f.val - 512 < 128) :
    wt W (ix2 f k) = W (ix3 0 k ⟨768 + (f.val - 512), by omega⟩) := by
  pointwise [wt]
  rw [dif_neg h, dif_pos h']

/-- A feature row of the handed matrix: the window keys. -/
theorem wt_k2 (W : FVec Ideal S1x1024x2328 .f32) (k : Fin 1024) (f : Fin 768) (h : ¬ f.val < 512) (h' : ¬ f.val - 512 < 128) :
    wt W (ix2 f k) = W (ix3 0 k ⟨1024 + (f.val - 512 - 128), by omega⟩) := by
  pointwise [wt]
  rw [dif_neg h, dif_neg h']

/-- The reference's query entry, batch and position apart. -/
theorem ref_q3 (X : FVec Ideal S2x8192x1024 .f32) (W : FVec Ideal S1x1024x2328 .f32) (n : Fin 16384) (l : Fin 512) :
    Cert.Reference3Ideal.Read.val_main_v8 (F := Ideal) X W (ix3 ⟨n.val / 8192, by omega⟩ ⟨n.val % 8192, by omega⟩ l)
      = proj X W n ⟨l.val, by omega⟩ * FloatOps.ofBits (F := Ideal) .f32 0x3E000000#32 := by
  pointwise [proj, Cert.Reference3Ideal.Read.val_main_v8, Cert.Reference3Ideal.Read.val_main_v7, Cert.Reference3Ideal.Read.val_main_v2, Cert.Reference3Ideal.Read.val_main_v1, Cert.Reference3Ideal.Read.val_main_v0, Cert.Reference3Ideal.Read.val_main_cst]

/-- The reference's selected keys, batch and position apart. -/
theorem ref_k1 (X : FVec Ideal S2x8192x1024 .f32) (W : FVec Ideal S1x1024x2328 .f32) (n : Fin 16384) (l : Fin 128) :
    Cert.Reference3Ideal.Read.val_main_v11 (F := Ideal) X W (ix3 ⟨n.val / 8192, by omega⟩ ⟨n.val % 8192, by omega⟩ l) = proj X W n ⟨768 + l.val, by omega⟩ := by
  pointwise [proj, Cert.Reference3Ideal.Read.val_main_v11, Cert.Reference3Ideal.Read.val_main_v3, Cert.Reference3Ideal.Read.val_main_v1, Cert.Reference3Ideal.Read.val_main_v0]
  exact Finset.sum_congr rfl fun k _ => congrArg (fun j => _ * W (ix3 0 k j)) (Fin.ext (show 512 + (256 + l.val) = 768 + l.val by omega))

/-- The reference's window keys, batch and position apart. -/
theorem ref_k2 (X : FVec Ideal S2x8192x1024 .f32) (W : FVec Ideal S1x1024x2328 .f32) (n : Fin 16384) (l : Fin 128) :
    Cert.Reference3Ideal.Read.val_main_v13 (F := Ideal) X W (ix3 ⟨n.val / 8192, by omega⟩ ⟨n.val % 8192, by omega⟩ l) = proj X W n ⟨1024 + l.val, by omega⟩ := by
  pointwise [proj, Cert.Reference3Ideal.Read.val_main_v13, Cert.Reference3Ideal.Read.val_main_v3, Cert.Reference3Ideal.Read.val_main_v1, Cert.Reference3Ideal.Read.val_main_v0]
  exact Finset.sum_congr rfl fun k _ => congrArg (fun j => _ * W (ix3 0 k j)) (Fin.ext (show 512 + (512 + l.val) = 1024 + l.val by omega))

/-- The reference's feature-major result, by its three parts. -/
theorem ref_qk (X : FVec Ideal S2x8192x1024 .f32) (W : FVec Ideal S1x1024x2328 .f32) (n : Fin 16384) (f : Fin 768) :
    (Cert.Reference3Ideal.Read.val_main_v35 (F := Ideal) X W (ix3 ⟨n.val / 8192, by omega⟩ f ⟨n.val % 8192, by omega⟩) : EReal)
      = if h : f.val < 512 then (Cert.Reference3Ideal.Read.val_main_v8 (F := Ideal) X W (ix3 ⟨n.val / 8192, by omega⟩ ⟨n.val % 8192, by omega⟩ ⟨f.val, h⟩) : EReal)
        else if h' : f.val - 512 < 128 then (Cert.Reference3Ideal.Read.val_main_v11 (F := Ideal) X W (ix3 ⟨n.val / 8192, by omega⟩ ⟨n.val % 8192, by omega⟩ ⟨f.val - 512, h'⟩) : EReal)
        else (Cert.Reference3Ideal.Read.val_main_v13 (F := Ideal) X W (ix3 ⟨n.val / 8192, by omega⟩ ⟨n.val % 8192, by omega⟩ ⟨f.val - 512 - 128, by omega⟩) : EReal) := by
  pointwise [Cert.Reference3Ideal.Read.val_main_v35, Cert.Reference3Ideal.Read.val_main_v23, Cert.Reference3Ideal.Read.val_main_v22]

/-- The kernel's `qk` array is the reference's. -/
theorem final_qk (c : Dev nD) : (dats m 0 c).arrAt 11 cfg0.N
    = Cert.Reference3Ideal.Read.val_main_v35 (F := Ideal) (m ((c : Thread nD τ).loc main_arg0)) (m ((c : Thread nD τ).loc main_arg1)) := by
  refine (dats m 0 c).arrAt_eq_of_covers 11 _ (by decide +kernel) fun t hf y => ?_
  blk_simp
  rw [after0_11]
  idx_vars y
  have ht := (idx t).2.2.2.2.2.2.2.2.2.2.2.2
  have h0 : y0 = 0 := Fin.ext (by omega)
  subst h0
  have he : (((cfg0.win 11).blk t).view.emb (ix3 0 y1 y2)) = ix3 ⟨(t.val * 512 + y2.val) / 8192, by omega⟩ y1 ⟨(t.val * 512 + y2.val) % 8192, by omega⟩ := by
    blk_ext [idx t]
  rw [he]
  refine (out_qk _ _ _ y1 y2).trans (Eq.trans ?_ (ref_qk _ _ ⟨t.val * 512 + y2.val, by omega⟩ y1).symm)
  by_cases h : y1.val < 512
  · rw [dif_pos h, ref_q3]
    exact scaled m c t y2 ⟨t.val * 512 + y2.val, by omega⟩ rfl _ rfl _ _ _ rfl ⟨y1.val, h⟩ fun k => (w2_at m c t y1 k).trans (wt_q _ k y1 h)
  · rw [dif_neg h]
    by_cases h' : y1.val - 512 < 128
    · rw [dif_pos h', ref_k1]
      exact Finset.sum_congr rfl fun k _ => congrArg₂ (fun a b : EReal => a * b) (x_at m c t y2 k ⟨t.val * 512 + y2.val, by omega⟩ rfl)
        ((w2_at m c t y1 k).trans (wt_k1 _ k y1 h h'))
    · rw [dif_neg h', ref_k2]
      exact Finset.sum_congr rfl fun k _ => congrArg₂ (fun a b : EReal => a * b) (x_at m c t y2 k ⟨t.val * 512 + y2.val, by omega⟩ rfl)
        ((w2_at m c t y1 k).trans (wt_k2 _ k y1 h h'))

end Cert.Inproj
-- ==== Proof.InprojClaim.lean ====
module

public import proofs.«01_k».proof.Defs
public import proofs.«01_k».proof.Proof.InprojRest
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import Idealize.ShloMosaic.Lib.Claim
public import Idealize.ShloMosaic.Lib.Quiescent

/-! The claims about the input projection: the three frames, and that the kernel's nine results are the reference's. -/

@[expose] public section

set_option maxRecDepth 16384

noncomputable section

open Idealize.ShloMosaic Idealize.SL.Sem

namespace Cert.Inproj

/-- The kernel over machine floats leaves every argument as it was. -/
theorem frame_kernel : Cert.quiescent_Kernel3 := fun m ρ _ => Cert.Kernel3.Gen.frame m ρ

/-- The kernel over the extended reals leaves every argument as it was. -/
theorem frame_ideal : Cert.quiescent_Kernel3Ideal := fun m ρ _ => Cert.Kernel3Ideal.Gen.frame m ρ

/-- The reference leaves every argument as it was. -/
theorem frame_reference : Cert.quiescent_Reference3Ideal := by
  intro m g _
  exact (θ_run Cert.Reference3Ideal.defs _ _).mono
    (fun r h => ⟨fun c => (h c).2.2.2.2.2.2.2.2.2, Idealize.ShloMosaic.sem_eq_zero_of_no_sems (by decide) r.2⟩)
    (Cert.Reference3Ideal.Value.run m g)

/-- The reference's run, each result named by the function of the arguments it is. -/
theorem reference_run (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => ∀ c : Dev Cert.Reference3Ideal.nD,
      r.2.mem ((c.tc : Thread Cert.Reference3Ideal.nD Cert.Reference3Ideal.τ).loc Cert.Reference3Ideal.main_v25) = Cert.Reference3Ideal.Read.val_main_v25 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v26) = Cert.Reference3Ideal.Read.val_main_v26 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v27) = Cert.Reference3Ideal.Read.val_main_v27 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v29) = Cert.Reference3Ideal.Read.val_main_v29 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v31) = Cert.Reference3Ideal.Read.val_main_v31 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v32) = Cert.Reference3Ideal.Read.val_main_v32 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v33) = Cert.Reference3Ideal.Read.val_main_v33 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v34) = Cert.Reference3Ideal.Read.val_main_v34 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_v35) = Cert.Reference3Ideal.Read.val_main_v35 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) ∧
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0) ∧
      r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1) :=
  (θ_run Cert.Reference3Ideal.defs _ _).mono (fun r h c => ⟨(h c).1.trans (Cert.Reference3Ideal.Read.val_main_v25_eq _ _), (h c).2.1.trans (Cert.Reference3Ideal.Read.val_main_v26_eq _ _), (h c).2.2.1.trans (Cert.Reference3Ideal.Read.val_main_v27_eq _ _), (h c).2.2.2.1.trans (Cert.Reference3Ideal.Read.val_main_v29_eq _ _), (h c).2.2.2.2.1.trans (Cert.Reference3Ideal.Read.val_main_v31_eq _ _), (h c).2.2.2.2.2.1.trans (Cert.Reference3Ideal.Read.val_main_v32_eq _ _), (h c).2.2.2.2.2.2.1.trans (Cert.Reference3Ideal.Read.val_main_v33_eq _ _), (h c).2.2.2.2.2.2.2.1.trans (Cert.Reference3Ideal.Read.val_main_v34_eq _ _), (h c).2.2.2.2.2.2.2.2.1.trans (Cert.Reference3Ideal.Read.val_main_v35_eq _ _),
    (h c).2.2.2.2.2.2.2.2.2⟩) (Cert.Reference3Ideal.Value.run m g)

/-- The kernel's run, each result named by the reference's function of the arguments. -/
theorem kernel_run (m : (ℓ : Loc Cert.Kernel3Ideal.nD Cert.Kernel3Ideal.τ Cert.Kernel3Ideal.sig) → Buf (Elt Ideal) ℓ)
    (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ fun r => ∀ c : Dev Cert.Kernel3Ideal.nD,
      r.2.mem ((c.tc : Thread Cert.Kernel3Ideal.nD Cert.Kernel3Ideal.τ).loc Cert.Kernel3Ideal.main_v19_0) = Cert.Reference3Ideal.Read.val_main_v25 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_1) = Cert.Reference3Ideal.Read.val_main_v26 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_2) = Cert.Reference3Ideal.Read.val_main_v27 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_3) = Cert.Reference3Ideal.Read.val_main_v29 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_4) = Cert.Reference3Ideal.Read.val_main_v31 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_5) = Cert.Reference3Ideal.Read.val_main_v32 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_6) = Cert.Reference3Ideal.Read.val_main_v33 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_7) = Cert.Reference3Ideal.Read.val_main_v34 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_v19_8) = Cert.Reference3Ideal.Read.val_main_v35 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ∧
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0) ∧
      r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) := by
  refine (θ_run Cert.Kernel3Ideal.defs _ _).mono (fun r h c => ?_) (Cert.Kernel3Ideal.Value.run_blocks m g)
  obtain ⟨e0, e1, e2, e3, e4, e5, e6, e7, e8, a⟩ := h c
  exact ⟨e0.trans (final_q m c), e1.trans (final_kc m c), e2.trans (final_vc m c), e3.trans (final_vs m c), e4.trans (final_vw m c), e5.trans (final_gate m c), e6.trans (final_rx m c), e7.trans (final_ry m c), e8.trans (final_qk m c), a⟩

/-- Over the extended reals the kernel's nine results are the reference's, element by element. -/
theorem same : Cert.algebraic_Kernel3Ideal_Reference3Ideal := by
  intro m g m' g' _ hagree
  refine ⟨_, _, _, _, _, _, _, _, _, kernel_run m g, ?_⟩
  refine (θ_run Cert.Reference3Ideal.defs _ _).mono (fun r h c => ?_) (reference_run m' g')
  obtain ⟨h0, h1⟩ := hagree c
  have hc := h c
  rw [h0, h1] at hc
  obtain ⟨e0, e1, e2, e3, e4, e5, e6, e7, e8, a0, a1⟩ := hc
  exact ⟨e0, e1, e2, e3, e4, e5, e6, e7, e8, a0.trans h0.symm, a1.trans h1.symm⟩

end Cert.Inproj
-- ==== Proof.OutPay.lean ====
module

public import proofs.«01_k».proof.Proof.Gen.Kernel4Ideal.Value
public import proofs.«01_k».proof.Proof.Gen.Reference4Ideal.Read
public import proofs.«01_k».proof.Proof.MoePay
public import Idealize.ShloMosaic.Lib.Pipeline.ValueKit
public import Idealize.ShloMosaic.Lib.Pointwise

/-! # The output projection at an index

The formulas the first result of `outproj` is stated with, what the body stores of it, and the reference's entries. -/

@[expose] public section

set_option maxRecDepth 16384

noncomputable section

open Idealize.ShloMosaic Idealize.ShloMosaic.TcCoe Idealize.SL.Sem

namespace Cert.Out

open Cert.Kernel4Ideal Cert.Kernel4Ideal.Gen Cert.Reference4Ideal.Read

/-- A row of 512 entries divided by its root mean square, at lane `l`, times the gain `g`. -/
def rms (h : Fin 512 → EReal) (g : EReal) (l : Fin 512) : EReal :=
  h l * Ideal.rsqrt (Ideal.div (∑ x, h x * h x) (Ideal.ofBits .f32 0x44000000#32) + Ideal.ofBits .f32 0x358637BD#32) * g

/-- The two normed halves of a token, side by side. -/
def heads (a b : Fin 512 → EReal) (ga gb : Fin 512 → EReal) (k : Fin 1024) : EReal :=
  if h : k.val < 512 then rms a (ga ⟨k.val, h⟩) ⟨k.val, h⟩
  else rms b (gb ⟨k.val - 512, by omega⟩) ⟨k.val - 512, by omega⟩

/-- What the layer norm of a token is taken of: its scaled residual plus the projection of its two normed halves. -/
def pre (a b : Fin 512 → EReal) (x : Fin 1024 → EReal) (ga gb : Fin 512 → EReal) (w : Fin 1024 → Fin 1024 → EReal)
    (l : Fin 1024) : EReal :=
  Ideal.ofBits .f32 0x3F9837F0#32 * x l + ∑ k, heads a b ga gb k * w k l

/-- The body's projection at an index. -/
theorem proj_at (a b : FVec Ideal S512x512 .f32) (ga gb : FVec Ideal S1x512 .f32) (w : FVec Ideal S1024x1024 .bf16)
    (r : Fin 512) (l : Fin 1024) :
    (k0_pay2 (F := Ideal) a b ga gb w (ix2 r l) : EReal)
      = ∑ k, heads (fun j => a (ix2 r j)) (fun j => b (ix2 r j)) (fun j => ga (ix2 0 j)) (fun j => gb (ix2 0 j)) k * w (ix2 k l) := by
  pointwise [k0_pay2, heads, rms]

/-- The body's layer norm at an index. -/
theorem norm_at (p x : FVec Ideal S512x1024 .f32) (g b : FVec Ideal S1x1024 .f32) (r : Fin 512) (l : Fin 1024) :
    (k0_pay4 (F := Ideal) p (k0_pay3 x) (Scalar.ofBits .f32 0x3F9837F0#32) g b (ix2 r l) : EReal)
      = Cert.Kernel2Ideal.Moe.norm (fun j => Ideal.ofBits .f32 0x3F9837F0#32 * x (ix2 r j) + p (ix2 r j)) (g (ix2 0 l)) (b (ix2 0 l)) l := by
  pointwise [k0_pay3, k0_pay4, Cert.Kernel2Ideal.Moe.norm]

/-- Token `n` in its batch. -/
abbrev bat (n : Fin 16384) : Fin 2 := ⟨n.val / 8192, by omega⟩
/-- Token `n`'s position in its batch. -/
abbrev pos (n : Fin 16384) : Fin 8192 := ⟨n.val % 8192, by omega⟩

/-- The reference's normed halves of a token. -/
theorem heads_ref (A R : FVec Ideal S2x8192x512 .f32) (GA GR : FVec Ideal S1x512 .f32) (n : Fin 16384) (k : Fin 1024) :
    (val_main_v28 (F := Ideal) A R GA GR (ix3 (bat n) (pos n) k) : EReal)
      = heads (fun j => A (ix3 (bat n) (pos n) j)) (fun j => R (ix3 (bat n) (pos n) j)) (fun j => GA (ix2 0 j)) (fun j => GR (ix2 0 j)) k := by
  pointwise [heads, rms, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

/-- The reference's sum before its layer norm. -/
theorem pre_ref (A R : FVec Ideal S2x8192x512 .f32) (X : FVec Ideal S2x8192x1024 .f32) (GA GR : FVec Ideal S1x512 .f32)
    (W : FVec Ideal S1x1024x1024 .f32) (n : Fin 16384) (l : Fin 1024) :
    (val_main_v33 (F := Ideal) A R X GA GR W (ix3 (bat n) (pos n) l) : EReal)
      = Ideal.ofBits .f32 0x3F9837F0#32 * X (ix3 (bat n) (pos n) l)
        + ∑ k, val_main_v28 (F := Ideal) A R GA GR (ix3 (bat n) (pos n) k) * W (ix3 0 k l) := by
  pointwise [val_main_v33, val_main_v32, val_main_v31, val_main_v30, val_main_v29, val_main_cst_5]

/-- The reference's result is the layer norm of that sum. -/
theorem out_ref (A R : FVec Ideal S2x8192x512 .f32) (X : FVec Ideal S2x8192x1024 .f32) (GA GR : FVec Ideal S1x512 .f32)
    (W : FVec Ideal S1x1024x1024 .f32) (G B : FVec Ideal S1x1024 .f32) (n : Fin 16384) (l : Fin 1024) :
    (val_main_v60 (F := Ideal) A R X GA GR W G B (ix2 n l) : EReal)
      = Cert.Kernel2Ideal.Moe.norm (fun j => val_main_v33 (F := Ideal) A R X GA GR W (ix3 (bat n) (pos n) j)) (G (ix2 0 l)) (B (ix2 0 l)) l := by
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_6, val_main_cst_7, val_main_cst_8, val_main_cst_9, val_main_cst_10]
  rfl

end Cert.Out
-- ==== Proof.OutValue.lean ====
module

public import proofs.«01_k».proof.Proof.OutPay

/-! # The output projection's first result

What the host hands the call `outproj`, entry by entry, and that the array the call returns is the reference's. -/

@[expose] public section

set_option maxRecDepth 16384

noncomputable section

open Idealize.ShloMosaic Idealize.ShloMosaic.TcCoe Idealize.SL.Sem
open Idealize.ShloMosaic.Pipeline (Dat)

namespace Cert.Out

open Cert.Kernel4Ideal Cert.Kernel4Ideal.Gen

variable (m : (ℓ : Loc nD τ sig) → Buf (Elt Ideal) ℓ)

/-- Where the blocks that the first result depends on sit, at all grid points at once. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_11.index t = ![t.val, 0] ∧ t.val < 32 :=
  (by decide +kernel : ∀ t : Fin grid0.N, _)

/-- What the host hands over for the attention rows. -/
theorem V_0 (c : Dev nD) : V m c main_v13 = shapeCast S16384x512 (m ((c : Thread nD τ).loc main_arg0) : FVec Ideal S2x8192x512 .f32) shapeCasts_S2x8192x512_S16384x512 := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- What the host hands over for the recurrent branch's rows. -/
theorem V_1 (c : Dev nD) : V m c main_v14 = shapeCast S16384x512 (m ((c : Thread nD τ).loc main_arg1) : FVec Ideal S2x8192x512 .f32) shapeCasts_S2x8192x512_S16384x512 := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- What the host hands over for the tokens. -/
theorem V_2 (c : Dev nD) : V m c main_v15 = shapeCast S16384x1024 (m ((c : Thread nD τ).loc main_arg2) : FVec Ideal S2x8192x1024 .f32) shapeCasts_S2x8192x1024_S16384x1024 := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- What the host hands over for the attention gains. -/
theorem V_3 (c : Dev nD) : V m c main_v17 = shapeCast S1x512 (shapeCast S512 (m ((c : Thread nD τ).loc main_arg3) : FVec Ideal S1x512 .f32) shapeCasts_S1x512_S512) shapeCasts_S512_S1x512 := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- What the host hands over for the recurrent branch's gains. -/
theorem V_4 (c : Dev nD) : V m c main_v19 = shapeCast S1x512 (shapeCast S512 (m ((c : Thread nD τ).loc main_arg4) : FVec Ideal S1x512 .f32) shapeCasts_S1x512_S512) shapeCasts_S512_S1x512 := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- What the host hands over for the projection matrix. -/
theorem V_5 (c : Dev nD) : V m c main_v21 = (truncf (F := Ideal) .bf16 (shapeCast S1024x1024 (m ((c : Thread nD τ).loc main_arg5) : FVec Ideal S1x1024x1024 .f32) shapeCasts_S1x1024x1024_S1024x1024) bitsLt_bf16_f32 : FVec Ideal S1024x1024 .bf16) := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- What the host hands over for the layer norm's gains. -/
theorem V_6 (c : Dev nD) : V m c main_v23 = shapeCast S1x1024 (shapeCast S1024 (m ((c : Thread nD τ).loc main_arg6) : FVec Ideal S1x1024 .f32) shapeCasts_S1x1024_S1024) shapeCasts_S1024_S1x1024 := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- What the host hands over for the layer norm's shifts. -/
theorem V_7 (c : Dev nD) : V m c main_v25 = shapeCast S1x1024 (shapeCast S1024 (m ((c : Thread nD τ).loc main_arg7) : FVec Ideal S1x1024 .f32) shapeCasts_S1x1024_S1024) shapeCasts_S1024_S1x1024 := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

/-- A row of 512 entries of the flattened list of tokens. -/
theorem row512 (X : FVec Ideal S2x8192x512 .f32) (n : Fin 16384) (k : Fin 512) :
    shapeCast S16384x512 X shapeCasts_S2x8192x512_S16384x512 (ix2 n k) = X (ix3 (bat n) (pos n) k) := by
  pointwise

/-- A row of 1024 entries of the flattened list of tokens. -/
theorem row1024 (X : FVec Ideal S2x8192x1024 .f32) (n : Fin 16384) (k : Fin 1024) :
    shapeCast S16384x1024 X shapeCasts_S2x8192x1024_S16384x1024 (ix2 n k) = X (ix3 (bat n) (pos n) k) := by
  pointwise

/-- A row of 512 gains taken out of its array and put back. -/
theorem gain512 (X : FVec Ideal S1x512 .f32) (k : Fin 512) :
    shapeCast S1x512 (shapeCast S512 X shapeCasts_S1x512_S512) shapeCasts_S512_S1x512 (ix2 0 k) = X (ix2 0 k) := by
  pointwise

/-- A row of 1024 gains taken out of its array and put back. -/
theorem gain1024 (X : FVec Ideal S1x1024 .f32) (k : Fin 1024) :
    shapeCast S1x1024 (shapeCast S1024 X shapeCasts_S1x1024_S1024) shapeCasts_S1024_S1x1024 (ix2 0 k) = X (ix2 0 k) := by
  pointwise

/-- An entry of the projection matrix without its leading axis. -/
theorem mat (X : FVec Ideal S1x1024x1024 .f32) (k l : Fin 1024) :
    (truncf .bf16 (shapeCast S1024x1024 X shapeCasts_S1x1024x1024_S1024x1024) bitsLt_bf16_f32 (ix2 k l) : EReal) = X (ix3 0 k l) := by
  pointwise

/-- A row of the block of the attention rows. -/
theorem in_0 (c : Dev nD) (t : Fin cfg0.N) (r : Fin 512) (k : Fin 512) (n : Fin 16384) (hn : n.val = t.val * 512 + r.val) :
    iblk m c 0 t (ix2 r k) = m ((c : Thread nD τ).loc main_arg0) (ix3 (bat n) (pos n) k) := by
  have he : ((cfg0.win 0).blk t).view.emb (ix2 r k) = ix2 n k := by
    blk_ext [idx t]
  show V m c main_v13 (((cfg0.win 0).blk t).view.emb (ix2 r k)) = _
  rw [he, V_0]
  exact row512 _ n k

/-- A row of the block of the recurrent branch's rows. -/
theorem in_1 (c : Dev nD) (t : Fin cfg0.N) (r : Fin 512) (k : Fin 512) (n : Fin 16384) (hn : n.val = t.val * 512 + r.val) :
    iblk m c 1 t (ix2 r k) = m ((c : Thread nD τ).loc main_arg1) (ix3 (bat n) (pos n) k) := by
  have he : ((cfg0.win 1).blk t).view.emb (ix2 r k) = ix2 n k := by
    blk_ext [idx t]
  show V m c main_v14 (((cfg0.win 1).blk t).view.emb (ix2 r k)) = _
  rw [he, V_1]
  exact row512 _ n k

/-- A row of the block of the tokens. -/
theorem in_2 (c : Dev nD) (t : Fin cfg0.N) (r : Fin 512) (k : Fin 1024) (n : Fin 16384) (hn : n.val = t.val * 512 + r.val) :
    iblk m c 2 t (ix2 r k) = m ((c : Thread nD τ).loc main_arg2) (ix3 (bat n) (pos n) k) := by
  have he : ((cfg0.win 2).blk t).view.emb (ix2 r k) = ix2 n k := by
    blk_ext [idx t]
  show V m c main_v15 (((cfg0.win 2).blk t).view.emb (ix2 r k)) = _
  rw [he, V_2]
  exact row1024 _ n k

/-- The block of the attention gains is the whole row. -/
theorem in_3 (c : Dev nD) (t : Fin cfg0.N) (k : Fin 512) :
    iblk m c 3 t (ix2 0 k) = m ((c : Thread nD τ).loc main_arg3) (ix2 0 k) := by
  have he : ((cfg0.win 3).blk t).view.emb (ix2 0 k) = ix2 0 k := by
    blk_ext [idx t]
  show V m c main_v17 (((cfg0.win 3).blk t).view.emb (ix2 0 k)) = _
  rw [he, V_3]
  exact gain512 _ k

/-- The block of the recurrent branch's gains is the whole row. -/
theorem in_4 (c : Dev nD) (t : Fin cfg0.N) (k : Fin 512) :
    iblk m c 4 t (ix2 0 k) = m ((c : Thread nD τ).loc main_arg4) (ix2 0 k) := by
  have he : ((cfg0.win 4).blk t).view.emb (ix2 0 k) = ix2 0 k := by
    blk_ext [idx t]
  show V m c main_v19 (((cfg0.win 4).blk t).view.emb (ix2 0 k)) = _
  rw [he, V_4]
  exact gain512 _ k

/-- The block of the layer norm's gains is the whole row. -/
theorem in_6 (c : Dev nD) (t : Fin cfg0.N) (k : Fin 1024) :
    iblk m c 6 t (ix2 0 k) = m ((c : Thread nD τ).loc main_arg6) (ix2 0 k) := by
  have he : ((cfg0.win 6).blk t).view.emb (ix2 0 k) = ix2 0 k := by
    blk_ext [idx t]
  show V m c main_v23 (((cfg0.win 6).blk t).view.emb (ix2 0 k)) = _
  rw [he, V_6]
  exact gain1024 _ k

/-- The block of the layer norm's shifts is the whole row. -/
theorem in_7 (c : Dev nD) (t : Fin cfg0.N) (k : Fin 1024) :
    iblk m c 7 t (ix2 0 k) = m ((c : Thread nD τ).loc main_arg7) (ix2 0 k) := by
  have he : ((cfg0.win 7).blk t).view.emb (ix2 0 k) = ix2 0 k := by
    blk_ext [idx t]
  show V m c main_v25 (((cfg0.win 7).blk t).view.emb (ix2 0 k)) = _
  rw [he, V_7]
  exact gain1024 _ k

/-- The block of the projection matrix is the whole matrix. -/
theorem in_5 (c : Dev nD) (t : Fin cfg0.N) (k l : Fin 1024) :
    iblk m c 5 t (ix2 k l) = m ((c : Thread nD τ).loc main_arg5) (ix3 0 k l) := by
  have he : ((cfg0.win 5).blk t).view.emb (ix2 k l) = ix2 k l := by
    blk_ext [idx t]
  show V m c main_v21 (((cfg0.win 5).blk t).view.emb (ix2 k l)) = _
  rw [he, V_5]
  exact mat _ k l

/-- What the body stores of the first result, as one array. -/
theorem out_eq (x0 x1 : FVec Ideal S512x512 .f32) (x2 : FVec Ideal S512x1024 .f32) (x3 x4 : FVec Ideal S1x512 .f32)
    (x5 : FVec Ideal S1024x1024 .bf16) (x6 x7 : FVec Ideal S1x1024 .f32) (x8 x9 : FVec Ideal S1024x128 .bf16)
    (x10 : FVec Ideal S1x128 .f32) :
    (out0_11 (F := Ideal) x0 x1 x2 x3 x4 x5 x6 x7 x8 x9 x10 : FVec Ideal S512x1024 .f32)
      = k0_pay4 (F := Ideal) (k0_pay2 x0 x1 x3 x4 x5) (k0_pay3 x2) (Scalar.ofBits .f32 0x3F9837F0#32) x6 x7 := by
  frame_out [k0_pay22, k0_pay23]

/-- What the body stores of the first result, entry by entry. -/
theorem out_at (x0 x1 : FVec Ideal S512x512 .f32) (x2 : FVec Ideal S512x1024 .f32) (x3 x4 : FVec Ideal S1x512 .f32)
    (x5 : FVec Ideal S1024x1024 .bf16) (x6 x7 : FVec Ideal S1x1024 .f32) (x8 x9 : FVec Ideal S1024x128 .bf16)
    (x10 : FVec Ideal S1x128 .f32) (r : Fin 512) (l : Fin 1024) :
    (out0_11 (F := Ideal) x0 x1 x2 x3 x4 x5 x6 x7 x8 x9 x10 : S512x1024.Idx → EReal) (ix2 r l)
      = Cert.Kernel2Ideal.Moe.norm (pre (fun j => x0 (ix2 r j)) (fun j => x1 (ix2 r j)) (fun j => x2 (ix2 r j))
          (fun j => x3 (ix2 0 j)) (fun j => x4 (ix2 0 j)) (fun k j => x5 (ix2 k j))) (x6 (ix2 0 l)) (x7 (ix2 0 l)) l := by
  rw [out_eq]
  refine (norm_at (k0_pay2 x0 x1 x3 x4 x5) x2 x6 x7 r l).trans ?_
  simp only [proj_at]
  rfl

/-- The reference's result with its parts spelt out. -/
theorem ref_at (A R : FVec Ideal S2x8192x512 .f32) (X : FVec Ideal S2x8192x1024 .f32) (GA GR : FVec Ideal S1x512 .f32)
    (W : FVec Ideal S1x1024x1024 .f32) (G B : FVec Ideal S1x1024 .f32) (n : Fin 16384) (l : Fin 1024) :
    (Cert.Reference4Ideal.Read.val_main_v60 (F := Ideal) A R X GA GR W G B (ix2 n l) : EReal)
      = Cert.Kernel2Ideal.Moe.norm (pre (fun j => A (ix3 (bat n) (pos n) j)) (fun j => R (ix3 (bat n) (pos n) j))
          (fun j => X (ix3 (bat n) (pos n) j)) (fun j => GA (ix2 0 j)) (fun j => GR (ix2 0 j)) (fun k j => W (ix3 0 k j)))
          (G (ix2 0 l)) (B (ix2 0 l)) l := by
  rw [out_ref]
  simp only [pre_ref, heads_ref]
  rfl

/-- The first array that the call returns is the reference's result. -/
theorem final (c : Dev nD) : (dats m 0 c).arrAt 11 cfg0.N
    = Cert.Reference4Ideal.Read.val_main_v60 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  idx_vars y
  have ht := (idx t).2.2.2.2.2.2.2.2.2
  have he : (((cfg0.win 11).blk t).view.emb (ix2 y0 y1)) = ix2 ⟨t.val * 512 + y0.val, by omega⟩ y1 := by
    blk_ext [idx t]
  rw [he, ref_at]
  refine (out_at _ _ _ _ _ _ _ _ _ _ _ y0 y1).trans ?_
  have e0 := fun j => in_0 m c t y0 j ⟨t.val * 512 + y0.val, by omega⟩ rfl
  have e1 := fun j => in_1 m c t y0 j ⟨t.val * 512 + y0.val, by omega⟩ rfl
  have e2 := fun j => in_2 m c t y0 j ⟨t.val * 512 + y0.val, by omega⟩ rfl
  have e3 := in_3 m c t
  have e4 := in_4 m c t
  have e5 := in_5 m c t
  have e6 := in_6 m c t y1
  have e7 := in_7 m c t y1
  refine congrArg₂ (fun g b => Cert.Kernel2Ideal.Moe.norm _ g b y1) e6 e7 |>.trans ?_
  exact congrArg (fun h => Cert.Kernel2Ideal.Moe.norm h _ _ y1)
    (by rw [show _ = _ from funext e0, show _ = _ from funext e1, show _ = _ from funext e2, show _ = _ from funext e3,
          show _ = _ from funext e4, show _ = _ from funext fun k => funext (e5 k)])

end Cert.Out
-- ==== Proof.OutClaim.lean ====
module

public import proofs.«01_k».proof.Defs
public import proofs.«01_k».proof.Proof.OutValue
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import Idealize.ShloMosaic.Lib.Claim
public import Idealize.ShloMosaic.Lib.Quiescent

/-! The claims about the output projection: the three frames, and that the kernel's first result is the reference's. -/

@[expose] public section

set_option maxRecDepth 16384

noncomputable section

open Idealize.ShloMosaic Idealize.SL.Sem

namespace Cert.Out

/-- The kernel over machine floats leaves every argument as it was. -/
theorem frame_kernel : Cert.quiescent_Kernel4 := fun m ρ _ => Cert.Kernel4.Gen.frame m ρ

/-- The kernel over the extended reals leaves every argument as it was. -/
theorem frame_ideal : Cert.quiescent_Kernel4Ideal := fun m ρ _ => Cert.Kernel4Ideal.Gen.frame m ρ

/-- The reference leaves every argument as it was. -/
theorem frame_reference : Cert.quiescent_Reference4Ideal := by
  intro m g _
  exact (θ_run Cert.Reference4Ideal.defs _ _).mono
    (fun r h => ⟨fun c => (h c).2, Idealize.ShloMosaic.sem_eq_zero_of_no_sems (by decide) r.2⟩)
    (Cert.Reference4Ideal.Value.run m g)

/-- The reference's run, its result named by the function of the arguments it is. -/
theorem reference_run (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ fun r => ∀ c : Dev Cert.Reference4Ideal.nD,
      r.2.mem ((c.tc : Thread Cert.Reference4Ideal.nD Cert.Reference4Ideal.τ).loc Cert.Reference4Ideal.main_v60) = Cert.Reference4Ideal.Read.val_main_v60 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) ∧
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0) ∧
      r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1) ∧
      r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2) ∧
      r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3) ∧
      r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4) ∧
      r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5) ∧
      r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6) ∧
      r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7) ∧
      r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8) ∧
      r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9) ∧
      r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10) ∧
      r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11) :=
  (θ_run Cert.Reference4Ideal.defs _ _).mono (fun r h c => ⟨(h c).1.trans (Cert.Reference4Ideal.Read.val_main_v60_eq _ _), (h c).2⟩) (Cert.Reference4Ideal.Value.run m g)

/-- The kernel's run, its first result named by the reference's function of the arguments. -/
theorem kernel_run (m : (ℓ : Loc Cert.Kernel4Ideal.nD Cert.Kernel4Ideal.τ Cert.Kernel4Ideal.sig) → Buf (Elt Ideal) ℓ)
    (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ fun r => ∀ c : Dev Cert.Kernel4Ideal.nD,
      r.2.mem ((c.tc : Thread Cert.Kernel4Ideal.nD Cert.Kernel4Ideal.τ).loc Cert.Kernel4Ideal.main_v26_0) = Cert.Reference4Ideal.Read.val_main_v60 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) ∧
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0) ∧
      r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1) ∧
      r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2) ∧
      r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3) ∧
      r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4) ∧
      r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5) ∧
      r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6) ∧
      r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7) ∧
      r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8) ∧
      r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9) ∧
      r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10) ∧
      r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11) := by
  refine (θ_run Cert.Kernel4Ideal.defs _ _).mono (fun r h c => ?_) (Cert.Kernel4Ideal.Value.run_blocks m g)
  obtain ⟨e0, _, a⟩ := h c
  exact ⟨e0.trans (final m c), a⟩

/-- Over the extended reals the kernel's first result is the reference's, element by element. -/
theorem same : Cert.algebraic_Kernel4Ideal_Reference4Ideal := by
  intro m g m' g' _ hagree
  refine ⟨_, kernel_run m g, ?_⟩
  refine (θ_run Cert.Reference4Ideal.defs _ _).mono (fun r h c => ?_) (reference_run m' g')
  obtain ⟨h0, h1, h2, h3, h4, h5, h6, h7, h8, h9, h10, h11⟩ := hagree c
  have hc := h c
  rw [h0, h1, h2, h3, h4, h5, h6, h7, h8, h9, h10, h11] at hc
  obtain ⟨e0, a0, a1, a2, a3, a4, a5, a6, a7, a8, a9, a10, a11⟩ := hc
  exact ⟨e0, a0.trans h0.symm, a1.trans h1.symm, a2.trans h2.symm, a3.trans h3.symm, a4.trans h4.symm, a5.trans h5.symm, a6.trans h6.symm, a7.trans h7.symm, a8.trans h8.symm, a9.trans h9.symm, a10.trans h10.symm, a11.trans h11.symm⟩

end Cert.Out
-- ==== Proof.lean ====
/- The claims of this directory, each proved in its own module under `Proof/`. -/
module

public import proofs.«01_k».proof.Defs
public import proofs.«01_k».proof.Proof.RgClaim
public import proofs.«01_k».proof.Proof.MoeClaim
public import proofs.«01_k».proof.Proof.InprojClaim
public import proofs.«01_k».proof.Proof.OutClaim

@[expose] public section

noncomputable section

namespace Cert.Proof

/-- Every claim: the frames, the idealizations, and the equality of the results over the extended reals. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Rg.frame_kernel, Cert.Rg.frame_ideal, Cert.Rg.frame_reference,
    Cert.Moe.frame_kernel, Cert.Moe.frame_ideal, Cert.Moe.frame_reference,
    Cert.Inproj.frame_kernel, Cert.Inproj.frame_ideal, Cert.Inproj.frame_reference,
    Cert.Out.frame_kernel, Cert.Out.frame_ideal, Cert.Out.frame_reference,
    trivial, Cert.Rg.same, trivial, Cert.Moe.same, trivial, Cert.Inproj.same, trivial, Cert.Out.same⟩

end Cert.Proof

end
